-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "third" .f32 0x3EAAAAAB#32 ((3⁻¹ : ℝ) : EReal)
  ∧ IdealRules.named_const.Statement Cert.KernelIdeal.κ "inv_sqrt3" .f32 0x3F13CD3A#32 (((Real.sqrt 3)⁻¹ : ℝ) : EReal)
  ∧ IdealRules.named_const.Statement Cert.KernelIdeal.κ "sqrt3" .f32 0x3FDDB3D7#32 ((Real.sqrt 3 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S256x256x256 : Shape := ⟨3, ![256, 256, 256]⟩
abbrev S1 : Shape := ⟨1, ![1]⟩
abbrev S1x32 : Shape := ⟨2, ![1, 32]⟩
abbrev S32 : Shape := ⟨1, ![32]⟩
abbrev S32x32 : Shape := ⟨2, ![32, 32]⟩
abbrev S32x9 : Shape := ⟨2, ![32, 9]⟩
abbrev S9 : Shape := ⟨1, ![9]⟩
abbrev S32x7 : Shape := ⟨2, ![32, 7]⟩
abbrev S7 : Shape := ⟨1, ![7]⟩
abbrev S_ : Shape := ⟨0, ![]⟩

class Facts : Prop where
  bcast_S_S256x256x256 : S_.BroadcastsInDim S256x256x256 (![] : Fin 0 → Fin S256x256x256.rank)
  reducesTo_S256x256x256_S_d0_1_2 : S256x256x256.ReducesTo [0, 1, 2] S_
  h_S_ : 0 < S_.numel
  bcast_S_S1 : S_.BroadcastsInDim S1 (![] : Fin 0 → Fin S1.rank)
  reducesTo_S1_S_d0 : S1.ReducesTo [0] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x9 : S_.BroadcastsInDim S32x9 (![] : Fin 0 → Fin S32x9.rank)
  reducesTo_S32x9_S_d0_1 : S32x9.ReducesTo [0, 1] S_
  bcast_S_S9 : S_.BroadcastsInDim S9 (![] : Fin 0 → Fin S9.rank)
  reducesTo_S9_S_d0 : S9.ReducesTo [0] S_
  bcast_S_S32x7 : S_.BroadcastsInDim S32x7 (![] : Fin 0 → Fin S32x7.rank)
  reducesTo_S32x7_S_d0_1 : S32x7.ReducesTo [0, 1] S_
  bcast_S_S7 : S_.BroadcastsInDim S7 (![] : Fin 0 → Fin S7.rank)
  reducesTo_S7_S_d0 : S7.ReducesTo [0] S_

variable [Facts]

def fn_part4 {F : FTy → Type} [FloatOps F] (main_v61 : IVec S_ 1) (main_v66 : IVec S7 1) : IVec S_ 1 :=
  let main_c_27 : IVec S_ 1 := constantI S_ 1 1#1
  let main_v67 : IVec S_ 1 := (fun x v => Host.reduce IntOp.andi x v reducesTo_S7_S_d0 h_S_) main_v66 main_c_27
  let main_v68 : IVec S_ 1 := andi main_v61 main_v67
  main_v68

def fn_part3 {F : FTy → Type} [FloatOps F] (main_arg7 : FVec F S9 .f32) (main_arg8 : FVec F S32x7 .f32) (main_arg9 : FVec F S7 .f32) (main_v47 : IVec S_ 1) (main_v49 : IVec S9 1) : IVec S_ 1 :=
  let main_cst_20 : FVec F S_ .f32 := constant S_ .f32 0x7F800000#32
  let main_v50 : FVec F S9 .f32 := broadcastInDim S9 ![] bcast_S_S9 main_cst_20
  let main_v51 : IVec S9 1 := cmpf .olt main_arg7 main_v50
  let main_v52 : IVec S9 1 := andi main_v49 main_v51
  let main_c_21 : IVec S_ 1 := constantI S_ 1 1#1
  let main_v53 : IVec S_ 1 := (fun x v => Host.reduce IntOp.andi x v reducesTo_S9_S_d0 h_S_) main_v52 main_c_21
  let main_v54 : IVec S_ 1 := andi main_v47 main_v53
  let main_cst_22 : FVec F S_ .f32 := constant S_ .f32 0xFF800000#32
  let main_v55 : FVec F S32x7 .f32 := broadcastInDim S32x7 ![] bcast_S_S32x7 main_cst_22
  let main_v56 : IVec S32x7 1 := cmpf .ogt main_arg8 main_v55
  let main_cst_23 : FVec F S_ .f32 := constant S_ .f32 0x7F800000#32
  let main_v57 : FVec F S32x7 .f32 := broadcastInDim S32x7 ![] bcast_S_S32x7 main_cst_23
  let main_v58 : IVec S32x7 1 := cmpf .olt main_arg8 main_v57
  let main_v59 : IVec S32x7 1 := andi main_v56 main_v58
  let main_c_24 : IVec S_ 1 := constantI S_ 1 1#1
  let main_v60 : IVec S_ 1 := (fun x v => Host.reduce IntOp.andi x v reducesTo_S32x7_S_d0_1 h_S_) main_v59 main_c_24
  let main_v61 : IVec S_ 1 := andi main_v54 main_v60
  let main_cst_25 : FVec F S_ .f32 := constant S_ .f32 0xFF800000#32
  let main_v62 : FVec F S7 .f32 := broadcastInDim S7 ![] bcast_S_S7 main_cst_25
  let main_v63 : IVec S7 1 := cmpf .ogt main_arg9 main_v62
  let main_cst_26 : FVec F S_ .f32 := constant S_ .f32 0x7F800000#32
  let main_v64 : FVec F S7 .f32 := broadcastInDim S7 ![] bcast_S_S7 main_cst_26
  let main_v65 : IVec S7 1 := cmpf .olt main_arg9 main_v64
  let main_v66 : IVec S7 1 := andi main_v63 main_v65
  fn_part4 (F := F) main_v61 main_v66

def fn_part2 {F : FTy → Type} [FloatOps F] (main_arg5 : FVec F S32 .f32) (main_arg6 : FVec F S32x9 .f32) (main_arg7 : FVec F S9 .f32) (main_arg8 : FVec F S32x7 .f32) (main_arg9 : FVec F S7 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S32 .f32 := broadcastInDim S32 ![] bcast_S_S32 main_cst_13
  let main_v35 : IVec S32 1 := cmpf .ogt main_arg5 main_v34
  let main_cst_14 : FVec F S_ .f32 := constant S_ .f32 0x7F800000#32
  let main_v36 : FVec F S32 .f32 := broadcastInDim S32 ![] bcast_S_S32 main_cst_14
  let main_v37 : IVec S32 1 := cmpf .olt main_arg5 main_v36
  let main_v38 : IVec S32 1 := andi main_v35 main_v37
  let main_c_15 : IVec S_ 1 := constantI S_ 1 1#1
  let main_v39 : IVec S_ 1 := (fun x v => Host.reduce IntOp.andi x v reducesTo_S32_S_d0 h_S_) main_v38 main_c_15
  let main_v40 : IVec S_ 1 := andi main_v33 main_v39
  let main_cst_16 : FVec F S_ .f32 := constant S_ .f32 0xFF800000#32
  let main_v41 : FVec F S32x9 .f32 := broadcastInDim S32x9 ![] bcast_S_S32x9 main_cst_16
  let main_v42 : IVec S32x9 1 := cmpf .ogt main_arg6 main_v41
  let main_cst_17 : FVec F S_ .f32 := constant S_ .f32 0x7F800000#32
  let main_v43 : FVec F S32x9 .f32 := broadcastInDim S32x9 ![] bcast_S_S32x9 main_cst_17
  let main_v44 : IVec S32x9 1 := cmpf .olt main_arg6 main_v43
  let main_v45 : IVec S32x9 1 := andi main_v42 main_v44
  let main_c_18 : IVec S_ 1 := constantI S_ 1 1#1
  let main_v46 : IVec S_ 1 := (fun x v => Host.reduce IntOp.andi x v reducesTo_S32x9_S_d0_1 h_S_) main_v45 main_c_18
  let main_v47 : IVec S_ 1 := andi main_v40 main_v46
  let main_cst_19 : FVec F S_ .f32 := constant S_ .f32 0xFF800000#32
  let main_v48 : FVec F S9 .f32 := broadcastInDim S9 ![] bcast_S_S9 main_cst_19
  let main_v49 : IVec S9 1 := cmpf .ogt main_arg7 main_v48
  fn_part3 (F := F) main_arg7 main_arg8 main_arg9 main_v47 main_v49

def fn_part1 {F : FTy → Type} [FloatOps F] (main_arg2 : FVec F S1x32 .f32) (main_arg3 : FVec F S32 .f32) (main_arg4 : FVec F S32x32 .f32) (main_arg5 : FVec F S32 .f32) (main_arg6 : FVec F S32x9 .f32) (main_arg7 : FVec F S9 .f32) (main_arg8 : FVec F S32x7 .f32) (main_arg9 : FVec F S7 .f32) (main_v12 : IVec S_ 1) (main_v14 : IVec S1x32 1) (main_v15 : FVec F S1x32 .f32) : IVec S_ 1 :=
  let main_v16 : IVec S1x32 1 := cmpf .olt main_arg2 main_v15
  let main_v17 : IVec S1x32 1 := andi main_v14 main_v16
  let main_c_6 : IVec S_ 1 := constantI S_ 1 1#1
  let main_v18 : IVec S_ 1 := (fun x v => Host.reduce IntOp.andi x v reducesTo_S1x32_S_d0_1 h_S_) main_v17 main_c_6
  let main_v19 : IVec S_ 1 := andi main_v12 main_v18
  let main_cst_7 : FVec F S_ .f32 := constant S_ .f32 0xFF800000#32
  let main_v20 : FVec F S32 .f32 := broadcastInDim S32 ![] bcast_S_S32 main_cst_7
  let main_v21 : IVec S32 1 := cmpf .ogt main_arg3 main_v20
  let main_cst_8 : FVec F S_ .f32 := constant S_ .f32 0x7F800000#32
  let main_v22 : FVec F S32 .f32 := broadcastInDim S32 ![] bcast_S_S32 main_cst_8
  let main_v23 : IVec S32 1 := cmpf .olt main_arg3 main_v22
  let main_v24 : IVec S32 1 := andi main_v21 main_v23
  let main_c_9 : IVec S_ 1 := constantI S_ 1 1#1
  let main_v25 : IVec S_ 1 := (fun x v => Host.reduce IntOp.andi x v reducesTo_S32_S_d0 h_S_) main_v24 main_c_9
  let main_v26 : IVec S_ 1 := andi main_v19 main_v25
  let main_cst_10 : FVec F S_ .f32 := constant S_ .f32 0xFF800000#32
  let main_v27 : FVec F S32x32 .f32 := broadcastInDim S32x32 ![] bcast_S_S32x32 main_cst_10
  let main_v28 : IVec S32x32 1 := cmpf .ogt main_arg4 main_v27
  let main_cst_11 : FVec F S_ .f32 := constant S_ .f32 0x7F800000#32
  let main_v29 : FVec F S32x32 .f32 := broadcastInDim S32x32 ![] bcast_S_S32x32 main_cst_11
  let main_v30 : IVec S32x32 1 := cmpf .olt main_arg4 main_v29
  let main_v31 : IVec S32x32 1 := andi main_v28 main_v30
  let main_c_12 : IVec S_ 1 := constantI S_ 1 1#1
  let main_v32 : IVec S_ 1 := (fun x v => Host.reduce IntOp.andi x v reducesTo_S32x32_S_d0_1 h_S_) main_v31 main_c_12
  fn_part2 (F := F) main_arg5 main_arg6 main_arg7 main_arg8 main_arg9 main_v26 main_v32

def fn {F : FTy → Type} [FloatOps F] (main_arg0 : FVec F S256x256x256 .f32) (main_arg1 : FVec F S1 .f32) (main_arg2 : FVec F S1x32 .f32) (main_arg3 : FVec F S32 .f32) (main_arg4 : FVec F S32x32 .f32) (main_arg5 : FVec F S32 .f32) (main_arg6 : FVec F S32x9 .f32) (main_arg7 : FVec F S9 .f32) (main_arg8 : FVec F S32x7 .f32) (main_arg9 : FVec F S7 .f32) : IVec S_ 1 :=
  let main_cst : FVec F S_ .f32 := constant S_ .f32 0x00000000#32
  let main_v0 : FVec F S256x256x256 .f32 := broadcastInDim S256x256x256 ![] bcast_S_S256x256x256 main_cst
  let main_v1 : IVec S256x256x256 1 := cmpf .oge main_arg0 main_v0
  let main_cst_0 : FVec F S_ .f32 := constant S_ .f32 0x3F800000#32
  let main_v2 : FVec F S256x256x256 .f32 := broadcastInDim S256x256x256 ![] bcast_S_S256x256x256 main_cst_0
  let main_v3 : IVec S256x256x256 1 := cmpf .olt main_arg0 main_v2
  let main_v4 : IVec S256x256x256 1 := andi main_v1 main_v3
  let main_c : IVec S_ 1 := constantI S_ 1 1#1
  let main_v5 : IVec S_ 1 := (fun x v => Host.reduce IntOp.andi x v reducesTo_S256x256x256_S_d0_1_2 h_S_) main_v4 main_c
  let main_cst_1 : FVec F S_ .f32 := constant S_ .f32 0xFF800000#32
  let main_v6 : FVec F S1 .f32 := broadcastInDim S1 ![] bcast_S_S1 main_cst_1
  let main_v7 : IVec S1 1 := cmpf .ogt main_arg1 main_v6
  let main_cst_2 : FVec F S_ .f32 := constant S_ .f32 0x7F800000#32
  let main_v8 : FVec F S1 .f32 := broadcastInDim S1 ![] bcast_S_S1 main_cst_2
  let main_v9 : IVec S1 1 := cmpf .olt main_arg1 main_v8
  let main_v10 : IVec S1 1 := andi main_v7 main_v9
  let main_c_3 : IVec S_ 1 := constantI S_ 1 1#1
  let main_v11 : IVec S_ 1 := (fun x v => Host.reduce IntOp.andi x v reducesTo_S1_S_d0 h_S_) main_v10 main_c_3
  let main_v12 : IVec S_ 1 := andi main_v5 main_v11
  let main_cst_4 : FVec F S_ .f32 := constant S_ .f32 0xFF800000#32
  let main_v13 : FVec F S1x32 .f32 := broadcastInDim S1x32 ![] bcast_S_S1x32 main_cst_4
  let main_v14 : IVec S1x32 1 := cmpf .ogt main_arg2 main_v13
  let main_cst_5 : FVec F S_ .f32 := constant S_ .f32 0x7F800000#32
  let main_v15 : FVec F S1x32 .f32 := broadcastInDim S1x32 ![] bcast_S_S1x32 main_cst_5
  fn_part1 (F := F) main_arg2 main_arg3 main_arg4 main_arg5 main_arg6 main_arg7 main_arg8 main_arg9 main_v12 main_v14 main_v15
-- ==== Kernel.lean ====
abbrev S256x256x256 : Shape := ⟨3, ![256, 256, 256]⟩
abbrev S1 : Shape := ⟨1, ![1]⟩
abbrev S1x32 : Shape := ⟨2, ![1, 32]⟩
abbrev S32 : Shape := ⟨1, ![32]⟩
abbrev S32x32 : Shape := ⟨2, ![32, 32]⟩
abbrev S32x9 : Shape := ⟨2, ![32, 9]⟩
abbrev S9 : Shape := ⟨1, ![9]⟩
abbrev S32x7 : Shape := ⟨2, ![32, 7]⟩
abbrev S7 : Shape := ⟨1, ![7]⟩
abbrev S1x1 : Shape := ⟨2, ![1, 1]⟩
abbrev S1x9 : Shape := ⟨2, ![1, 9]⟩
abbrev S1x7 : Shape := ⟨2, ![1, 7]⟩
abbrev S16x256x256 : Shape := ⟨3, ![16, 256, 256]⟩
abbrev S64 : Shape := ⟨1, ![64]⟩
abbrev S1x128 : Shape := ⟨2, ![1, 128]⟩
abbrev S32x1 : Shape := ⟨2, ![32, 1]⟩
abbrev S1x119 : Shape := ⟨2, ![1, 119]⟩
abbrev S1x121 : Shape := ⟨2, ![1, 121]⟩
abbrev S4x1 : Shape := ⟨2, ![4, 1]⟩
abbrev S4x128 : Shape := ⟨2, ![4, 128]⟩

abbrev nBuf : Space → Nat
  | .hbm => 16
  | .vmem => 13
  | .smem => 1
  | _ => 0

abbrev bufTy : (tb : Table) → Fin (tcTables nBuf tb) → BufTy
  | .hbm, ⟨0, _⟩ => ⟨S256x256x256, .f32⟩
  | .hbm, ⟨1, _⟩ => ⟨S1, .f32⟩
  | .hbm, ⟨2, _⟩ => ⟨S1x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x9, .f32⟩
  | .hbm, ⟨7, _⟩ => ⟨S9, .f32⟩
  | .hbm, ⟨8, _⟩ => ⟨S32x7, .f32⟩
  | .hbm, ⟨9, _⟩ => ⟨S7, .f32⟩
  | .hbm, ⟨10, _⟩ => ⟨S1x1, .f32⟩
  | .hbm, ⟨11, _⟩ => ⟨S1x32, .f32⟩
  | .hbm, ⟨12, _⟩ => ⟨S1x32, .f32⟩
  | .hbm, ⟨13, _⟩ => ⟨S1x9, .f32⟩
  | .hbm, ⟨14, _⟩ => ⟨S1x7, .f32⟩
  | .hbm, ⟨15, _⟩ => ⟨S256x256x256, .f32⟩
  | .local _ .vmem, ⟨0, _⟩ => ⟨S1x1, .f32⟩
  | .local _ .vmem, ⟨1, _⟩ => ⟨S1x32, .f32⟩
  | .local _ .vmem, ⟨2, _⟩ => ⟨S1x32, .f32⟩
  | .local _ .vmem, ⟨3, _⟩ => ⟨S32x32, .f32⟩
  | .local _ .vmem, ⟨4, _⟩ => ⟨S1x32, .f32⟩
  | .local _ .vmem, ⟨5, _⟩ => ⟨S32x9, .f32⟩
  | .local _ .vmem, ⟨6, _⟩ => ⟨S1x9, .f32⟩
  | .local _ .vmem, ⟨7, _⟩ => ⟨S32x7, .f32⟩
  | .local _ .vmem, ⟨8, _⟩ => ⟨S1x7, .f32⟩
  | .local _ .vmem, ⟨9, _⟩ => ⟨S16x256x256, .f32⟩
  | .local _ .vmem, ⟨10, _⟩ => ⟨S16x256x256, .f32⟩
  | .local _ .vmem, ⟨11, _⟩ => ⟨S16x256x256, .f32⟩
  | .local _ .vmem, ⟨12, _⟩ => ⟨S16x256x256, .f32⟩
  | .local _ .smem, ⟨0, _⟩ => ⟨S64, .f32⟩
  | _, _ => ⟨S256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x9 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x7 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x7 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_sqrt3" => some (((Real.sqrt 3)⁻¹ : ℝ) : EReal)
  | "mask" => some ⊥
  | "sqrt3" => some ((Real.sqrt 3 : ℝ) : EReal)
  | "third" => some ((3⁻¹ : ℝ) : EReal)
  | _ => none
-- ==== ReferenceIdeal.lean ====
abbrev S256x256x256 : Shape := ⟨3, ![256, 256, 256]⟩
abbrev S1 : Shape := ⟨1, ![1]⟩
abbrev S1x32 : Shape := ⟨2, ![1, 32]⟩
abbrev S32 : Shape := ⟨1, ![32]⟩
abbrev S32x32 : Shape := ⟨2, ![32, 32]⟩
abbrev S32x9 : Shape := ⟨2, ![32, 9]⟩
abbrev S9 : Shape := ⟨1, ![9]⟩
abbrev S32x7 : Shape := ⟨2, ![32, 7]⟩
abbrev S7 : Shape := ⟨1, ![7]⟩
abbrev S_ : Shape := ⟨0, ![]⟩
abbrev S8 : Shape := ⟨1, ![8]⟩
abbrev S10 : Shape := ⟨1, ![10]⟩
abbrev S3 : Shape := ⟨1, ![3]⟩
abbrev S14 : Shape := ⟨1, ![14]⟩
abbrev S14x1x1x1 : Shape := ⟨4, ![14, 1, 1, 1]⟩
abbrev S1x256x256x256 : Shape := ⟨4, ![1, 256, 256, 256]⟩
abbrev S14x256x256x256 : Shape := ⟨4, ![14, 256, 256, 256]⟩
abbrev S256x256x256x1 : Shape := ⟨4, ![256, 256, 256, 1]⟩

abbrev nBuf : Space → Nat
  | .hbm => 244
  | .vmem => 0
  | .smem => 0
  | _ => 0

abbrev hbmTy0_0 (i : Nat) : BufTy := match i % 128 with
  | 0 => ⟨S256x256x256, .f32⟩
  | 1 => ⟨S1, .f32⟩
  | 2 => ⟨S1x32, .f32⟩
  | 3 => ⟨S32, .f32⟩
  | 4 => ⟨S32x32, .f32⟩
  | 5 => ⟨S32, .f32⟩
  | 6 => ⟨S32x9, .f32⟩
  | 7 => ⟨S9, .f32⟩
  | 8 => ⟨S32x7, .f32⟩
  | 9 => ⟨S7, .f32⟩
  | 10 => ⟨S32, .f32⟩
  | 11 => ⟨S32, .f32⟩
  | 12 => ⟨S32, .f32⟩
  | 13 => ⟨S32, .f32⟩
  | 14 => ⟨S32, .f32⟩
  | 15 => ⟨S32, .f32⟩
  | 16 => ⟨S9, .f32⟩
  | 17 => ⟨S9, .f32⟩
  | 18 => ⟨S7, .f32⟩
  | 19 => ⟨S7, .f32⟩
  | 20 => ⟨S_, .f32⟩
  | 21 => ⟨S1, .f32⟩
  | 22 => ⟨S_, .f32⟩
  | 23 => ⟨S_, .f32⟩
  | 24 => ⟨S_, .f32⟩
  | 25 => ⟨S_, .f32⟩
  | 26 => ⟨S1, .f32⟩
  | 27 => ⟨S7, .f32⟩
  | 28 => ⟨S7, .f32⟩
  | 29 => ⟨S7, .f32⟩
  | 30 => ⟨S_, .f32⟩
  | 31 => ⟨S_, .f32⟩
  | 32 => ⟨S1, .f32⟩
  | 33 => ⟨S7, .f32⟩
  | 34 => ⟨S7, .f32⟩
  | 35 => ⟨S_, .f32⟩
  | 36 => ⟨S_, .f32⟩
  | 37 => ⟨S7, .f32⟩
  | 38 => ⟨S8, .f32⟩
  | 39 => ⟨S_, .f32⟩
  | 40 => ⟨S1, .f32⟩
  | 41 => ⟨S10, .f32⟩
  | 42 => ⟨S_, .f32⟩
  | 43 => ⟨S3, .f32⟩
  | 44 => ⟨S_, .f32⟩
  | 45 => ⟨S3, .f32⟩
  | 46 => ⟨S14, .f32⟩
  | 47 => ⟨S_, .f32⟩
  | 48 => ⟨S_, .f32⟩
  | 49 => ⟨S256x256x256, .f32⟩
  | 50 => ⟨S256x256x256, .f32⟩
  | 51 => ⟨S_, .f32⟩
  | 52 => ⟨S_, .f32⟩
  | 53 => ⟨S_, .f32⟩
  | 54 => ⟨S256x256x256, .f32⟩
  | 55 => ⟨S256x256x256, .f32⟩
  | 56 => ⟨S_, .f32⟩
  | 57 => ⟨S256x256x256, .f32⟩
  | 58 => ⟨S256x256x256, .f32⟩
  | 59 => ⟨S14x1x1x1, .f32⟩
  | 60 => ⟨S1x256x256x256, .f32⟩
  | 61 => ⟨S14x256x256x256, .f32⟩
  | 62 => ⟨S14x256x256x256, .f32⟩
  | 63 => ⟨S14x256x256x256, .i1⟩
  | 64 => ⟨S14x256x256x256, .i32⟩
  | 65 => ⟨S_, .i32⟩
  | 66 => ⟨S256x256x256, .i32⟩
  | 67 => ⟨S_, .i32⟩
  | 68 => ⟨S256x256x256, .i32⟩
  | 69 => ⟨S256x256x256, .i32⟩
  | 70 => ⟨S_, .i32⟩
  | 71 => ⟨S256x256x256, .i32⟩
  | 72 => ⟨S256x256x256, .i32⟩
  | 73 => ⟨S_, .i32⟩
  | 74 => ⟨S256x256x256, .i32⟩
  | 75 => ⟨S256x256x256, .i1⟩
  | 76 => ⟨S_, .i32⟩
  | 77 => ⟨S256x256x256, .i32⟩
  | 78 => ⟨S256x256x256, .i32⟩
  | 79 => ⟨S256x256x256, .i32⟩
  | 80 => ⟨S256x256x256x1, .i32⟩
  | 81 => ⟨S256x256x256, .f32⟩
  | 82 => ⟨S_, .i32⟩
  | 83 => ⟨S256x256x256, .i32⟩
  | 84 => ⟨S256x256x256, .i32⟩
  | 85 => ⟨S_, .i32⟩
  | 86 => ⟨S256x256x256, .i32⟩
  | 87 => ⟨S256x256x256, .i1⟩
  | 88 => ⟨S_, .i32⟩
  | 89 => ⟨S256x256x256, .i32⟩
  | 90 => ⟨S256x256x256, .i32⟩
  | 91 => ⟨S256x256x256, .i32⟩
  | 92 => ⟨S256x256x256x1, .i32⟩
  | 93 => ⟨S256x256x256, .f32⟩
  | 94 => ⟨S_, .i32⟩
  | 95 => ⟨S256x256x256, .i32⟩
  | 96 => ⟨S256x256x256, .i32⟩
  | 97 => ⟨S_, .i32⟩
  | 98 => ⟨S256x256x256, .i32⟩
  | 99 => ⟨S256x256x256, .i1⟩
  | 100 => ⟨S_, .i32⟩
  | 101 => ⟨S256x256x256, .i32⟩
  | 102 => ⟨S256x256x256, .i32⟩
  | 103 => ⟨S256x256x256, .i32⟩
  | 104 => ⟨S256x256x256x1, .i32⟩
  | 105 => ⟨S256x256x256, .f32⟩
  | 106 => ⟨S_, .i32⟩
  | 107 => ⟨S256x256x256, .i32⟩
  | 108 => ⟨S256x256x256, .i32⟩
  | 109 => ⟨S_, .i32⟩
  | 110 => ⟨S256x256x256, .i32⟩
  | 111 => ⟨S256x256x256, .i1⟩
  | 112 => ⟨S_, .i32⟩
  | 113 => ⟨S256x256x256, .i32⟩
  | 114 => ⟨S256x256x256, .i32⟩
  | 115 => ⟨S256x256x256, .i32⟩
  | 116 => ⟨S256x256x256x1, .i32⟩
  | 117 => ⟨S256x256x256, .f32⟩
  | 118 => ⟨S_, .i32⟩
  | 119 => ⟨S256x256x256, .i32⟩
  | 120 => ⟨S256x256x256, .i32⟩
  | 121 => ⟨S_, .i32⟩
  | 122 => ⟨S256x256x256, .i32⟩
  | 123 => ⟨S256x256x256, .i1⟩
  | 124 => ⟨S_, .i32⟩
  | 125 => ⟨S256x256x256, .i32⟩
  | 126 => ⟨S256x256x256, .i32⟩
  | 127 => ⟨S256x256x256, .i32⟩
  | _ => ⟨S256x256x256, .f32⟩

abbrev hbmTy0_1 (i : Nat) : BufTy := match i % 128 with
  | 0 => ⟨S256x256x256x1, .i32⟩
  | 1 => ⟨S256x256x256, .f32⟩
  | 2 => ⟨S_, .i32⟩
  | 3 => ⟨S256x256x256, .i32⟩
  | 4 => ⟨S256x256x256, .i32⟩
  | 5 => ⟨S_, .i32⟩
  | 6 => ⟨S256x256x256, .i32⟩
  | 7 => ⟨S256x256x256, .i1⟩
  | 8 => ⟨S_, .i32⟩
  | 9 => ⟨S256x256x256, .i32⟩
  | 10 => ⟨S256x256x256, .i32⟩
  | 11 => ⟨S256x256x256, .i32⟩
  | 12 => ⟨S256x256x256x1, .i32⟩
  | 13 => ⟨S256x256x256, .f32⟩
  | 14 => ⟨S_, .i32⟩
  | 15 => ⟨S256x256x256, .i32⟩
  | 16 => ⟨S256x256x256, .i32⟩
  | 17 => ⟨S_, .i32⟩
  | 18 => ⟨S256x256x256, .i32⟩
  | 19 => ⟨S256x256x256, .i1⟩
  | 20 => ⟨S_, .i32⟩
  | 21 => ⟨S256x256x256, .i32⟩
  | 22 => ⟨S256x256x256, .i32⟩
  | 23 => ⟨S256x256x256, .i32⟩
  | 24 => ⟨S256x256x256x1, .i32⟩
  | 25 => ⟨S256x256x256, .f32⟩
  | 26 => ⟨S_, .i32⟩
  | 27 => ⟨S256x256x256, .i32⟩
  | 28 => ⟨S256x256x256, .i32⟩
  | 29 => ⟨S_, .i32⟩
  | 30 => ⟨S256x256x256, .i32⟩
  | 31 => ⟨S256x256x256, .i1⟩
  | 32 => ⟨S_, .i32⟩
  | 33 => ⟨S256x256x256, .i32⟩
  | 34 => ⟨S256x256x256, .i32⟩
  | 35 => ⟨S256x256x256, .i32⟩
  | 36 => ⟨S256x256x256x1, .i32⟩
  | 37 => ⟨S256x256x256, .f32⟩
  | 38 => ⟨S_, .i32⟩
  | 39 => ⟨S256x256x256, .i32⟩
  | 40 => ⟨S256x256x256, .i32⟩
  | 41 => ⟨S_, .i32⟩
  | 42 => ⟨S256x256x256, .i32⟩
  | 43 => ⟨S256x256x256, .i1⟩
  | 44 => ⟨S_, .i32⟩
  | 45 => ⟨S256x256x256, .i32⟩
  | 46 => ⟨S256x256x256, .i32⟩
  | 47 => ⟨S256x256x256, .i32⟩
  | 48 => ⟨S256x256x256x1, .i32⟩
  | 49 => ⟨S256x256x256, .f32⟩
  | 50 => ⟨S_, .i32⟩
  | 51 => ⟨S256x256x256, .i32⟩
  | 52 => ⟨S256x256x256, .i32⟩
  | 53 => ⟨S_, .i32⟩
  | 54 => ⟨S256x256x256, .i32⟩
  | 55 => ⟨S256x256x256, .i1⟩
  | 56 => ⟨S_, .i32⟩
  | 57 => ⟨S256x256x256, .i32⟩
  | 58 => ⟨S256x256x256, .i32⟩
  | 59 => ⟨S256x256x256, .i32⟩
  | 60 => ⟨S256x256x256x1, .i32⟩
  | 61 => ⟨S256x256x256, .f32⟩
  | 62 => ⟨S256x256x256, .f32⟩
  | 63 => ⟨S256x256x256, .f32⟩
  | 64 => ⟨S256x256x256, .f32⟩
  | 65 => ⟨S_, .f32⟩
  | 66 => ⟨S256x256x256, .f32⟩
  | 67 => ⟨S256x256x256, .f32⟩
  | 68 => ⟨S256x256x256, .f32⟩
  | 69 => ⟨S256x256x256, .f32⟩
  | 70 => ⟨S256x256x256, .f32⟩
  | 71 => ⟨S256x256x256, .f32⟩
  | 72 => ⟨S256x256x256, .f32⟩
  | 73 => ⟨S256x256x256, .f32⟩
  | 74 => ⟨S_, .f32⟩
  | 75 => ⟨S256x256x256, .f32⟩
  | 76 => ⟨S256x256x256, .f32⟩
  | 77 => ⟨S256x256x256, .f32⟩
  | 78 => ⟨S256x256x256, .f32⟩
  | 79 => ⟨S256x256x256, .f32⟩
  | 80 => ⟨S256x256x256, .f32⟩
  | 81 => ⟨S256x256x256, .f32⟩
  | 82 => ⟨S256x256x256, .f32⟩
  | 83 => ⟨S_, .f32⟩
  | 84 => ⟨S256x256x256, .f32⟩
  | 85 => ⟨S256x256x256, .f32⟩
  | 86 => ⟨S256x256x256, .f32⟩
  | 87 => ⟨S256x256x256, .f32⟩
  | 88 => ⟨S256x256x256, .f32⟩
  | 89 => ⟨S256x256x256, .f32⟩
  | 90 => ⟨S256x256x256, .f32⟩
  | 91 => ⟨S256x256x256, .f32⟩
  | 92 => ⟨S_, .f32⟩
  | 93 => ⟨S256x256x256, .f32⟩
  | 94 => ⟨S256x256x256, .f32⟩
  | 95 => ⟨S256x256x256, .f32⟩
  | 96 => ⟨S256x256x256, .f32⟩
  | 97 => ⟨S256x256x256, .f32⟩
  | 98 => ⟨S256x256x256, .f32⟩
  | 99 => ⟨S256x256x256, .f32⟩
  | 100 => ⟨S256x256x256, .f32⟩
  | 101 => ⟨S_, .f32⟩
  | 102 => ⟨S256x256x256, .f32⟩
  | 103 => ⟨S256x256x256, .f32⟩
  | 104 => ⟨S256x256x256, .f32⟩
  | 105 => ⟨S256x256x256, .f32⟩
  | 106 => ⟨S256x256x256, .f32⟩
  | 107 => ⟨S256x256x256, .f32⟩
  | 108 => ⟨S256x256x256, .f32⟩
  | 109 => ⟨S256x256x256, .f32⟩
  | 110 => ⟨S_, .f32⟩
  | 111 => ⟨S256x256x256, .f32⟩
  | 112 => ⟨S256x256x256, .f32⟩
  | 113 => ⟨S256x256x256, .f32⟩
  | 114 => ⟨S256x256x256, .f32⟩
  | 115 => ⟨S256x256x256, .f32⟩
  | _ => ⟨S256x256x256, .f32⟩

abbrev hbmTy (i : Nat) : BufTy := match i / 128 with
  | 0 => hbmTy0_0 i
  | 1 => hbmTy0_1 i
  | _ => ⟨S256x256x256, .f32⟩

abbrev bufTy : (tb : Table) → Fin (tcTables nBuf tb) → BufTy
  | .hbm, ⟨i, _⟩ => hbmTy i
  | _, _ => ⟨S256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_call0_cst : Ref sig .tc := ⟨.hbm, 35, rfl⟩
abbrev main_call0_call0_v0 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_cst_8 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c : Ref sig .tc := ⟨.hbm, 65, rfl⟩
abbrev main_v38 : Ref sig .tc := ⟨.hbm, 66, rfl⟩
abbrev main_c_9 : Ref sig .tc := ⟨.hbm, 67, rfl⟩
abbrev main_v39 : Ref sig .tc := ⟨.hbm, 68, rfl⟩
abbrev main_v40 : Ref sig .tc := ⟨.hbm, 69, rfl⟩
abbrev main_c_10 : Ref sig .tc := ⟨.hbm, 70, rfl⟩
abbrev main_v41 : Ref sig .tc := ⟨.hbm, 71, rfl⟩
abbrev main_v42 : Ref sig .tc := ⟨.hbm, 72, rfl⟩
abbrev main_c_11 : Ref sig .tc := ⟨.hbm, 73, rfl⟩
abbrev main_v43 : Ref sig .tc := ⟨.hbm, 74, rfl⟩
abbrev main_v44 : Ref sig .tc := ⟨.hbm, 75, rfl⟩
abbrev main_c_12 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_13 : Ref sig .tc := ⟨.hbm, 82, rfl⟩
abbrev main_v50 : Ref sig .tc := ⟨.hbm, 83, rfl⟩
abbrev main_v51 : Ref sig .tc := ⟨.hbm, 84, rfl⟩
abbrev main_c_14 : Ref sig .tc := ⟨.hbm, 85, rfl⟩
abbrev main_v52 : Ref sig .tc := ⟨.hbm, 86, rfl⟩
abbrev main_v53 : Ref sig .tc := ⟨.hbm, 87, rfl⟩
abbrev main_c_15 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_c_16 : Ref sig .tc := ⟨.hbm, 94, rfl⟩
abbrev main_v59 : Ref sig .tc := ⟨.hbm, 95, rfl⟩
abbrev main_v60 : Ref sig .tc := ⟨.hbm, 96, rfl⟩
abbrev main_c_17 : Ref sig .tc := ⟨.hbm, 97, rfl⟩
abbrev main_v61 : Ref sig .tc := ⟨.hbm, 98, rfl⟩
abbrev main_v62 : Ref sig .tc := ⟨.hbm, 99, rfl⟩
abbrev main_c_18 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_19 : Ref sig .tc := ⟨.hbm, 106, rfl⟩
abbrev main_v68 : Ref sig .tc := ⟨.hbm, 107, rfl⟩
abbrev main_v69 : Ref sig .tc := ⟨.hbm, 108, rfl⟩
abbrev main_c_20 : Ref sig .tc := ⟨.hbm, 109, rfl⟩
abbrev main_v70 : Ref sig .tc := ⟨.hbm, 110, rfl⟩
abbrev main_v71 : Ref sig .tc := ⟨.hbm, 111, rfl⟩
abbrev main_c_21 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_22 : Ref sig .tc := ⟨.hbm, 118, rfl⟩
abbrev main_v77 : Ref sig .tc := ⟨.hbm, 119, rfl⟩
abbrev main_v78 : Ref sig .tc := ⟨.hbm, 120, rfl⟩
abbrev main_c_23 : Ref sig .tc := ⟨.hbm, 121, rfl⟩
abbrev main_v79 : Ref sig .tc := ⟨.hbm, 122, rfl⟩
abbrev main_v80 : Ref sig .tc := ⟨.hbm, 123, rfl⟩
abbrev main_c_24 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_25 : Ref sig .tc := ⟨.hbm, 130, rfl⟩
abbrev main_v86 : Ref sig .tc := ⟨.hbm, 131, rfl⟩
abbrev main_v87 : Ref sig .tc := ⟨.hbm, 132, rfl⟩
abbrev main_c_26 : Ref sig .tc := ⟨.hbm, 133, rfl⟩
abbrev main_v88 : Ref sig .tc := ⟨.hbm, 134, rfl⟩
abbrev main_v89 : Ref sig .tc := ⟨.hbm, 135, rfl⟩
abbrev main_c_27 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_c_28 : Ref sig .tc := ⟨.hbm, 142, rfl⟩
abbrev main_v95 : Ref sig .tc := ⟨.hbm, 143, rfl⟩
abbrev main_v96 : Ref sig .tc := ⟨.hbm, 144, rfl⟩
abbrev main_c_29 : Ref sig .tc := ⟨.hbm, 145, rfl⟩
abbrev main_v97 : Ref sig .tc := ⟨.hbm, 146, rfl⟩
abbrev main_v98 : Ref sig .tc := ⟨.hbm, 147, rfl⟩
abbrev main_c_30 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_c_31 : Ref sig .tc := ⟨.hbm, 154, rfl⟩
abbrev main_v104 : Ref sig .tc := ⟨.hbm, 155, rfl⟩
abbrev main_v105 : Ref sig .tc := ⟨.hbm, 156, rfl⟩
abbrev main_c_32 : Ref sig .tc := ⟨.hbm, 157, rfl⟩
abbrev main_v106 : Ref sig .tc := ⟨.hbm, 158, rfl⟩
abbrev main_v107 : Ref sig .tc := ⟨.hbm, 159, rfl⟩
abbrev main_c_33 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_c_34 : Ref sig .tc := ⟨.hbm, 166, rfl⟩
abbrev main_v113 : Ref sig .tc := ⟨.hbm, 167, rfl⟩
abbrev main_v114 : Ref sig .tc := ⟨.hbm, 168, rfl⟩
abbrev main_c_35 : Ref sig .tc := ⟨.hbm, 169, rfl⟩
abbrev main_v115 : Ref sig .tc := ⟨.hbm, 170, rfl⟩
abbrev main_v116 : Ref sig .tc := ⟨.hbm, 171, rfl⟩
abbrev main_c_36 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_c_37 : Ref sig .tc := ⟨.hbm, 178, rfl⟩
abbrev main_v122 : Ref sig .tc := ⟨.hbm, 179, rfl⟩
abbrev main_v123 : Ref sig .tc := ⟨.hbm, 180, rfl⟩
abbrev main_c_38 : Ref sig .tc := ⟨.hbm, 181, rfl⟩
abbrev main_v124 : Ref sig .tc := ⟨.hbm, 182, rfl⟩
abbrev main_v125 : Ref sig .tc := ⟨.hbm, 183, rfl⟩
abbrev main_c_39 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_40 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_cst_41 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_cst_42 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_cst_43 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_cst_44 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_cst_45 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩

abbrev nD : Nat := 1
abbrev τ : Topo := Topo.v7x

variable {F : FTy → Type} [FloatOps F]
-- ==== Proof.KernelIdealRun.lean ====
/- One run of the kernel's body on whole memrefs: the inputs come back as they were. -/
module

public import proofs.«01_k».proof.Proof.Gen.KernelIdeal.Frame
public import proofs.«01_k».proof.Proof.Gen.KernelIdeal.Skeleton
public import Idealize.ShloMosaic.Lib.WordCmp

@[expose] public section

set_option maxRecDepth 16384

noncomputable section

namespace Cert.Proof.KernelIdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The guard of the table-building region, as a fact about the grid point. -/
abbrev atStart (i : grid0.Coords) : Prop :=
  Scalar.cmpi .ne (Scalar.extui (Scalar.cmpi .eq (BitVec.ofNat 32 (i 0).val) 0#32)) 0#32 = 1#1

/-- What the body holds throughout: the inputs at their contents, the output block and the scratch at anything. -/
def held (c : Dev nD) (arg1 : Memref sig .tc .vmem S1x1 .f32) (arg2 : Memref sig .tc .vmem S1x32 .f32) (arg3 : Memref sig .tc .vmem S1x32 .f32) (arg4 : Memref sig .tc .vmem S32x32 .f32) (arg5 : Memref sig .tc .vmem S1x32 .f32) (arg6 : Memref sig .tc .vmem S32x9 .f32) (arg7 : Memref sig .tc .vmem S1x9 .f32) (arg8 : Memref sig .tc .vmem S32x7 .f32) (arg9 : Memref sig .tc .vmem S1x7 .f32) (arg10 : Memref sig .tc .vmem S16x256x256 .f32) (arg11 : Memref sig .tc .vmem S16x256x256 .f32) (arg12 : Memref sig .tc .smem S64 .f32)
    (x0 : Vec F S1x1 .f32) (x1 : Vec F S1x32 .f32) (x2 : Vec F S1x32 .f32) (x3 : Vec F S32x32 .f32) (x4 : Vec F S1x32 .f32) (x5 : Vec F S32x9 .f32) (x6 : Vec F S1x9 .f32) (x7 : Vec F S32x7 .f32) (x8 : Vec F S1x7 .f32) (x9 : Vec F S16x256x256 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d))

set_option maxHeartbeats 4000000 in
/-- The body gives back what it was handed, whether or not the point builds the table and whichever evaluation
    it takes: the output block and the scratch come back at contents nothing here names. -/
theorem body_run (c : Dev nD) (i : grid0.Coords) (arg1 : Memref sig .tc .vmem S1x1 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x9 .f32) (harg6 : arg6.IsWhole) (arg7 : Memref sig .tc .vmem S1x9 .f32) (harg7 : arg7.IsWhole) (arg8 : Memref sig .tc .vmem S32x7 .f32) (harg8 : arg8.IsWhole) (arg9 : Memref sig .tc .vmem S1x7 .f32) (harg9 : arg9.IsWhole) (arg10 : Memref sig .tc .vmem S16x256x256 .f32) (harg10 : arg10.IsWhole) (arg11 : Memref sig .tc .vmem S16x256x256 .f32) (harg11 : arg11.IsWhole) (arg12 : Memref sig .tc .smem S64 .f32) (harg12 : arg12.IsWhole)
    (x0 : Vec F S1x1 .f32) (x1 : Vec F S1x32 .f32) (x2 : Vec F S1x32 .f32) (x3 : Vec F S32x32 .f32) (x4 : Vec F S1x32 .f32) (x5 : Vec F S32x9 .f32) (x6 : Vec F S1x9 .f32) (x7 : Vec F S32x7 .f32) (x8 : Vec F S1x7 .f32) (x9 : Vec F S16x256x256 .f32) (K : PUnit → sProp 𝕄) :
    iprop(held c arg1 arg2 arg3 arg4 arg5 arg6 arg7 arg8 arg9 arg10 arg11 arg12 x0 x1 x2 x3 x4 x5 x6 x7 x8 x9
        ∗ (held c arg1 arg2 arg3 arg4 arg5 arg6 arg7 arg8 arg9 arg10 arg11 arg12 x0 x1 x2 x3 x4 x5 x6 x7 x8 x9 -∗ K ⟨⟩))
      ⊢ wp frame (wpE (defs₀ (F := F)) Variants.none c none) Set.univ
          (cc0_spline_fused i arg1 harg1 arg2 harg2 arg3 harg3 arg4 harg4 arg5 harg5 arg6 harg6 arg7 harg7 arg8 harg8 arg9 harg9 arg10 harg10 arg11 harg11 arg12 harg12) K := by
  unfold held
  simp only [cc0_spline_fused_eq_skeleton]; unfold cc0_spline_fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  by_cases hc0 : atStart i
  all_goals
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    iexists _, _; isplitr; swap; · iexact HS0
    ipureintro; rfl

end Cert.Proof.KernelIdealRun

end
-- ==== Proof.KernelIdealFrame.lean ====
/- The frame of the kernel over extended reals at any float model: every argument array ends as it was launched, and every counter at zero. -/
module

public import proofs.«01_k».proof.Proof.KernelIdealRun
public import Idealize.ShloMosaic.Lib.Claim

@[expose] public section

set_option maxRecDepth 16384

noncomputable section

namespace Cert.Proof.KernelIdealFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Only the output window's contents are left unnamed. -/
def unnamedOut : Fin 11 → Bool := fun w => w.val == 10

/-- Before every point: the arrays as the region finds them; after every point: each input buffer at its block. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem before_0 (c : Dev nD) (t : Fin cfg0.N) (d) : (data m 0 c).before 0 t d = iblk m c 0 t :=
  before0_0_of m (data m 0 c) (data_A m c 0) (after_0 m c) t d
theorem after_1 (c : Dev nD) (t : Fin cfg0.N) : (data m 0 c).after 1 t = iblk m c 1 t := by dsimp only [data]
theorem before_1 (c : Dev nD) (t : Fin cfg0.N) (d) : (data m 0 c).before 1 t d = iblk m c 1 t :=
  before0_1_of m (data m 0 c) (data_A m c 1) (after_1 m c) t d
theorem after_2 (c : Dev nD) (t : Fin cfg0.N) : (data m 0 c).after 2 t = iblk m c 2 t := by dsimp only [data]
theorem before_2 (c : Dev nD) (t : Fin cfg0.N) (d) : (data m 0 c).before 2 t d = iblk m c 2 t :=
  before0_2_of m (data m 0 c) (data_A m c 2) (after_2 m c) t d
theorem after_3 (c : Dev nD) (t : Fin cfg0.N) : (data m 0 c).after 3 t = iblk m c 3 t := by dsimp only [data]
theorem before_3 (c : Dev nD) (t : Fin cfg0.N) (d) : (data m 0 c).before 3 t d = iblk m c 3 t :=
  before0_3_of m (data m 0 c) (data_A m c 3) (after_3 m c) t d
theorem after_4 (c : Dev nD) (t : Fin cfg0.N) : (data m 0 c).after 4 t = iblk m c 4 t := by dsimp only [data]
theorem before_4 (c : Dev nD) (t : Fin cfg0.N) (d) : (data m 0 c).before 4 t d = iblk m c 4 t :=
  before0_4_of m (data m 0 c) (data_A m c 4) (after_4 m c) t d
theorem after_5 (c : Dev nD) (t : Fin cfg0.N) : (data m 0 c).after 5 t = iblk m c 5 t := by dsimp only [data]
theorem before_5 (c : Dev nD) (t : Fin cfg0.N) (d) : (data m 0 c).before 5 t d = iblk m c 5 t :=
  before0_5_of m (data m 0 c) (data_A m c 5) (after_5 m c) t d
theorem after_6 (c : Dev nD) (t : Fin cfg0.N) : (data m 0 c).after 6 t = iblk m c 6 t := by dsimp only [data]
theorem before_6 (c : Dev nD) (t : Fin cfg0.N) (d) : (data m 0 c).before 6 t d = iblk m c 6 t :=
  before0_6_of m (data m 0 c) (data_A m c 6) (after_6 m c) t d
theorem after_7 (c : Dev nD) (t : Fin cfg0.N) : (data m 0 c).after 7 t = iblk m c 7 t := by dsimp only [data]
theorem before_7 (c : Dev nD) (t : Fin cfg0.N) (d) : (data m 0 c).before 7 t d = iblk m c 7 t :=
  before0_7_of m (data m 0 c) (data_A m c 7) (after_7 m c) t d
theorem after_8 (c : Dev nD) (t : Fin cfg0.N) : (data m 0 c).after 8 t = iblk m c 8 t := by dsimp only [data]
theorem before_8 (c : Dev nD) (t : Fin cfg0.N) (d) : (data m 0 c).before 8 t d = iblk m c 8 t :=
  before0_8_of m (data m 0 c) (data_A m c 8) (after_8 m c) t d
theorem after_9 (c : Dev nD) (t : Fin cfg0.N) : (data m 0 c).after 9 t = iblk m c 9 t := by dsimp only [data]
theorem before_9 (c : Dev nD) (t : Fin cfg0.N) (d) : (data m 0 c).before 9 t d = iblk m c 9 t :=
  before0_9_of m (data m 0 c) (data_A m c 9) (after_9 m c) t d

/-- The class invariant, with the one scratch buffer as a whole memref. -/
theorem invariant_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]

set_option maxHeartbeats 2400000 in
theorem body_ok (c : Dev nD) (t : Fin cfg0.N) :
    iprop((data m 0 c).Φ t.castSucc ∗ (data m 0 c).owesAt () t.castSucc
      ∗ (∃ d, owns (c : Thread nD τ) (win0_0.stage (cfg0.slots t 0)) fullShare ((data m 0 c).before 0 t d))
      ∗ (∃ d, owns (c : Thread nD τ) (win0_1.stage (cfg0.slots t 1)) fullShare ((data m 0 c).before 1 t d))
      ∗ (∃ d, owns (c : Thread nD τ) (win0_2.stage (cfg0.slots t 2)) fullShare ((data m 0 c).before 2 t d))
      ∗ (∃ d, owns (c : Thread nD τ) (win0_3.stage (cfg0.slots t 3)) fullShare ((data m 0 c).before 3 t d))
      ∗ (∃ d, owns (c : Thread nD τ) (win0_4.stage (cfg0.slots t 4)) fullShare ((data m 0 c).before 4 t d))
      ∗ (∃ d, owns (c : Thread nD τ) (win0_5.stage (cfg0.slots t 5)) fullShare ((data m 0 c).before 5 t d))
      ∗ (∃ d, owns (c : Thread nD τ) (win0_6.stage (cfg0.slots t 6)) fullShare ((data m 0 c).before 6 t d))
      ∗ (∃ d, owns (c : Thread nD τ) (win0_7.stage (cfg0.slots t 7)) fullShare ((data m 0 c).before 7 t d))
      ∗ (∃ d, owns (c : Thread nD τ) (win0_8.stage (cfg0.slots t 8)) fullShare ((data m 0 c).before 8 t d))
      ∗ (∃ d, owns (c : Thread nD τ) (win0_9.stage (cfg0.slots t 9)) fullShare ((data m 0 c).before 9 t d))
      ∗ (∃ d, owns (c : Thread nD τ) (win0_10.stage (cfg0.slots t 10)) fullShare d))
    ⊢ wp frame (wpE (defs₀ (F := F)) Variants.none c none) Set.univ (bodyAt0 t) (fun _ =>
      iprop((data m 0 c).Φ t.succ ∗ (data m 0 c).owesAt () t.succ
        ∗ owns (c : Thread nD τ) (win0_0.stage (cfg0.slots t 0)) fullShare ((data m 0 c).after 0 t)
        ∗ owns (c : Thread nD τ) (win0_1.stage (cfg0.slots t 1)) fullShare ((data m 0 c).after 1 t)
        ∗ owns (c : Thread nD τ) (win0_2.stage (cfg0.slots t 2)) fullShare ((data m 0 c).after 2 t)
        ∗ owns (c : Thread nD τ) (win0_3.stage (cfg0.slots t 3)) fullShare ((data m 0 c).after 3 t)
        ∗ owns (c : Thread nD τ) (win0_4.stage (cfg0.slots t 4)) fullShare ((data m 0 c).after 4 t)
        ∗ owns (c : Thread nD τ) (win0_5.stage (cfg0.slots t 5)) fullShare ((data m 0 c).after 5 t)
        ∗ owns (c : Thread nD τ) (win0_6.stage (cfg0.slots t 6)) fullShare ((data m 0 c).after 6 t)
        ∗ owns (c : Thread nD τ) (win0_7.stage (cfg0.slots t 7)) fullShare ((data m 0 c).after 7 t)
        ∗ owns (c : Thread nD τ) (win0_8.stage (cfg0.slots t 8)) fullShare ((data m 0 c).after 8 t)
        ∗ owns (c : Thread nD τ) (win0_9.stage (cfg0.slots t 9)) fullShare ((data m 0 c).after 9 t)
        ∗ (∃ d, owns (c : Thread nD τ) (win0_10.stage (cfg0.slots t 10)) fullShare d))) := by
  unfold bodyAt0
  simp only [before_0, before_1, before_2, before_3, before_4, before_5, before_6, before_7, before_8, before_9]
  rw [show (data m 0 c).owesAt () t.succ = (data m 0 c).owesAt () t.castSucc from rfl,
    show (data m 0 c).Φ t.succ = Pipeline.ΦA spec0 c from rfl, show (data m 0 c).Φ t.castSucc = Pipeline.ΦA spec0 c from rfl,
    invariant_eq, after_0, after_1, after_2, after_3, after_4, after_5, after_6, after_7, after_8, after_9]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  iapply (KernelIdealRun.body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t))
  unfold KernelIdealRun.held
  isplitl [H0 H1 H2 H3 H4 H5 H6 H7 H8 H9 H10 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iintro ⟨H0, H1, H2, H3, H4, H5, H6, H7, H8, H9, H10, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_row (t : Fin cfg0.N) :
    defs₀ (F := F) .tc cfg0.body (cfg0.bodyArgs t (cfg0.slots t)) = bodyAt0 t := by
  unfold defs₀; rw [Defs.onTc_tc]

theorem obligation (c : Dev nD) :
    BodyObligation (data (F := F) m 0 c) (defs₀ (F := F)) Variants.none () Set.univ unnamedOut := fun t => by
  rw [bigSep_W0, bigSep_W0, body_row]
  exact triple_restated (body_ok m c t) rfl .rfl fun _ => .rfl

set_option backward.isDefEq.respectTransparency.types false in
/-- Every run of the kernel with named constants ends, with every staged input array unchanged and every counter at zero. -/
theorem run : θ_run defs (onTc (τ := τ) (main (F := F))) (s₀ m ρ) (fun r =>
    (Pipeline.RDat.FramePost (cfgs 0) (fun c => (data m 0 c).toRForget unnamedOut) (V m)) r ∧ r.2.sem = fun _ => 0) :=
  Pipeline.θ_run_frame_forget (Q' := _) cfgs (data m) (0 : Fin 1) launch0 defs₀ Variants.none unnamedOut m ρ main
    (hbody := fun c => (obligation m c).loose) (hshare := fun c => (data m 0 c).share_full fun _ => rfl)
    (howed := fun _ _ => rfl) (V := V m) (hmain := hmain m Variants.none) (hA := data_A m) (hΦ := fun _ _ => rfl)

/-- The frame claim at any float model. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨
      (Pipeline.RDat.FramePost.arr_in h.1 c 9 rfl).trans (V_main_arg0 m c),
      ((h.1 c).2 main_arg1 (Pipeline.mem_restRefs_of main_arg1 (by decide) (by decide))).trans (V_main_arg1 m c),
      (Pipeline.RDat.FramePost.arr_in h.1 c 1 rfl).trans (V_main_arg2 m c),
      ((h.1 c).2 main_arg3 (Pipeline.mem_restRefs_of main_arg3 (by decide) (by decide))).trans (V_main_arg3 m c),
      (Pipeline.RDat.FramePost.arr_in h.1 c 3 rfl).trans (V_main_arg4 m c),
      ((h.1 c).2 main_arg5 (Pipeline.mem_restRefs_of main_arg5 (by decide) (by decide))).trans (V_main_arg5 m c),
      (Pipeline.RDat.FramePost.arr_in h.1 c 5 rfl).trans (V_main_arg6 m c),
      ((h.1 c).2 main_arg7 (Pipeline.mem_restRefs_of main_arg7 (by decide) (by decide))).trans (V_main_arg7 m c),
      (Pipeline.RDat.FramePost.arr_in h.1 c 7 rfl).trans (V_main_arg8 m c),
      ((h.1 c).2 main_arg9 (Pipeline.mem_restRefs_of main_arg9 (by decide) (by decide))).trans (V_main_arg9 m c)⟩, h.2⟩) (run m ρ)

end Cert.Proof.KernelIdealFrame

end
-- ==== Proof.Plain.lean ====
/- The claims that need no value: the reference's frame, and that each named constant is the one printed. -/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.KernelIdealFrame
public import Idealize.ShloMosaic.Lib.Claim
public import Idealize.ShloMosaic.Lib.Quiescent
public import Idealize.ShloMosaic.Lib.Tactic

@[expose] public section

set_option maxRecDepth 16384

noncomputable section

namespace Cert.Proof.Plain

open Idealize.ShloMosaic Idealize.ShloMosaic.TcCoe Idealize.ShloMosaic.Tactic
open Idealize.SL Idealize.SL.Sem

set_option maxHeartbeats 8000000 in
/-- The reference runs to its end and leaves its arguments alone. -/
theorem reference_frame : Cert.quiescent_ReferenceIdeal (hReferenceIdeal := Cert.ReferenceIdeal.Gen.facts) := by
  intro m g _
  exact (θ_run _ _ _).mono (fun _ h => ⟨fun c => (h c).2, sem_eq_zero_of_no_sems (by decide) _⟩) (Cert.ReferenceIdeal.Value.run m g)

theorem preserves : Cert.preserves_Kernel_KernelIdeal :=
  ⟨IdealRules.named_const.statement Cert.KernelIdeal.κ "mask" .f32 0xF149F2CA#32 ⊥ rfl,
    IdealRules.named_const.statement Cert.KernelIdeal.κ "third" .f32 0x3EAAAAAB#32 ((3⁻¹ : ℝ) : EReal) rfl,
    IdealRules.named_const.statement Cert.KernelIdeal.κ "inv_sqrt3" .f32 0x3F13CD3A#32 (((Real.sqrt 3)⁻¹ : ℝ) : EReal) rfl,
    IdealRules.named_const.statement Cert.KernelIdeal.κ "sqrt3" .f32 0x3FDDB3D7#32 ((Real.sqrt 3 : ℝ) : EReal) rfl⟩

end Cert.Proof.Plain

end
-- ==== Proof.Consts.lean ====
/- The float constants the two programs spell, as the reals their patterns denote. -/
module

public import Idealize.ShloMosaic.PureOps.Ideal

@[expose] public section

noncomputable section

namespace Cert.Proof.Consts

open Idealize.ShloMosaic

theorem neg5_5 : Ideal.ofBits .f32 0xC0B00000#32 = ((-5.5 : ℝ) : EReal) := by
  simp [Ideal.ofBits, Ideal.ieee, -EReal.coe_mul]; norm_num
theorem nine : Ideal.ofBits .f32 0x41100000#32 = ((9 : ℝ) : EReal) := by
  simp [Ideal.ofBits, Ideal.ieee, -EReal.coe_mul]; norm_num
theorem neg4_5 : Ideal.ofBits .f32 0xC0900000#32 = ((-4.5 : ℝ) : EReal) := by
  simp [Ideal.ofBits, Ideal.ieee, -EReal.coe_mul]; norm_num
theorem neg22_5 : Ideal.ofBits .f32 0xC1B40000#32 = ((-22.5 : ℝ) : EReal) := by
  simp [Ideal.ofBits, Ideal.ieee, -EReal.coe_mul]; norm_num
theorem eighteen : Ideal.ofBits .f32 0x41900000#32 = ((18 : ℝ) : EReal) := by
  simp [Ideal.ofBits, Ideal.ieee, -EReal.coe_mul]; norm_num
theorem pos13_5 : Ideal.ofBits .f32 0x41580000#32 = ((13.5 : ℝ) : EReal) := by
  simp [Ideal.ofBits, Ideal.ieee, -EReal.coe_mul]; norm_num
theorem neg13_5 : Ideal.ofBits .f32 0xC1580000#32 = ((-13.5 : ℝ) : EReal) := by
  simp [Ideal.ofBits, Ideal.ieee, -EReal.coe_mul]; norm_num
theorem pos4_5 : Ideal.ofBits .f32 0x40900000#32 = ((4.5 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem four : Ideal.ofBits .f32 0x40800000#32 = ((4 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem three : Ideal.ofBits .f32 0x40400000#32 = ((3 : ℝ) : EReal) := by
  simp [Ideal.ofBits, Ideal.ieee, -EReal.coe_mul]; norm_num
theorem zero : Ideal.ofBits .f32 0x00000000#32 = ((0 : ℝ) : EReal) := by
  simp [Ideal.ofBits, Ideal.ieee, -EReal.coe_mul]
theorem negInf : Ideal.ofBits .f32 0xFF800000#32 = ⊥ := by
  simp [Ideal.ofBits, Ideal.ieee]
theorem posInf : Ideal.ofBits .f32 0x7F800000#32 = ⊤ := by
  simp [Ideal.ofBits, Ideal.ieee]
theorem below1 : Ideal.ofBits .f32 0x3F7FF972#32 = ((16775538 / 16777216 : ℝ) : EReal) := by
  simp [Ideal.ofBits, Ideal.ieee, -EReal.coe_mul]; norm_num

end Cert.Proof.Consts

end
-- ==== Proof.Finite.lean ====
/- What the precondition says: the network's numbers are all finite, and every position lies in [0, 1). -/
module

public import proofs.«01_k».proof.Defs
public import proofs.«01_k».proof.Proof.Consts
public import proofs.«01_k».proof.Proof.Gen.Pre_pre
public import Idealize.ShloMosaic.Lib.ReduceAll
public import Idealize.ShloMosaic.Lib.StableHlo.Predicate

@[expose] public section

set_option maxRecDepth 16384

noncomputable section

namespace Cert.Proof.Finite

open Idealize.ShloMosaic Idealize.ShloMosaic.TcCoe
open Cert.Pre_pre Cert.Pre_pre.Gen

instance : Subsingleton S_.Idx := ⟨fun a b => funext fun d => d.elim0⟩

/-- Every entry of an array of extended reals is a real. -/
def AllReal {ι : Type} (x : ι → EReal) : Prop := ∀ i, x i = (((x i).toReal : ℝ) : EReal)

theorem bit_iff (p : Prop) [Decidable p] : BitVec.ofBool (decide p) = 1#1 ↔ p := by
  by_cases h : p <;> simp [h]

/-- An array all of whose entries lie strictly between the infinities. -/
theorem real_of_all {s : Shape} {axes : List (Fin s.rank)} (x : FVec Ideal s .f32) (b : S_.BroadcastsInDim s (![] : Fin 0 → Fin s.rank)) (b' : S_.BroadcastsInDim s (![] : Fin 0 → Fin s.rank))
    (h : s.ReducesTo axes S_) (hu : 0 < S_.numel) (init : IVec S_ 1) (j : S_.Idx)
    (e : Host.reduce IntOp.andi (andi (cmpf .ogt x (broadcastInDim s ![] b (constant S_ .f32 0xFF800000#32)))
      (cmpf .olt x (broadcastInDim s ![] b' (constant S_ .f32 0x7F800000#32)))) init h hu j = 1#1) : AllReal x := by
  intro i
  have e' := Host.reduce_andi_all _ _ h hu j e i
  obtain ⟨h1, h2⟩ := IntOp.andi_eq_one.1 e'
  have h1 : Ideal.ofBits .f32 0xFF800000#32 < x i := (bit_iff _).1 h1
  have h2 : x i < Ideal.ofBits .f32 0x7F800000#32 := (bit_iff _).1 h2
  rw [Consts.negInf] at h1
  rw [Consts.posInf] at h2
  exact (EReal.coe_toReal h2.ne h1.ne').symm

/-- An array all of whose entries lie in [0, 1). -/
theorem unit_of_all {s : Shape} {axes : List (Fin s.rank)} (x : FVec Ideal s .f32) (b : S_.BroadcastsInDim s (![] : Fin 0 → Fin s.rank)) (b' : S_.BroadcastsInDim s (![] : Fin 0 → Fin s.rank))
    (h : s.ReducesTo axes S_) (hu : 0 < S_.numel) (init : IVec S_ 1) (j : S_.Idx)
    (e : Host.reduce IntOp.andi (andi (cmpf .oge x (broadcastInDim s ![] b (constant S_ .f32 0x00000000#32)))
      (cmpf .olt x (broadcastInDim s ![] b' (constant S_ .f32 0x3F800000#32)))) init h hu j = 1#1) (i : s.Idx) :
    ∃ X : ℝ, x i = ((X : ℝ) : EReal) ∧ 0 ≤ X ∧ X < 1 := by
  have e' := Host.reduce_andi_all _ _ h hu j e i
  obtain ⟨h1, h2⟩ := IntOp.andi_eq_one.1 e'
  have h1 : Ideal.ofBits .f32 0x00000000#32 ≤ x i := (bit_iff _).1 h1
  have h2 : x i < Ideal.ofBits .f32 0x3F800000#32 := (bit_iff _).1 h2
  rw [Consts.zero] at h1
  rw [Consts.one] at h2
  have hx : x i = (((x i).toReal : ℝ) : EReal) := (EReal.coe_toReal (h2.trans (EReal.coe_lt_top _)).ne ((EReal.bot_lt_coe _).trans_le h1).ne').symm
  rw [hx] at h1 h2
  exact ⟨_, hx, EReal.coe_le_coe_iff.1 h1, EReal.coe_lt_coe_iff.1 h2⟩

/-- The precondition, entry by entry. -/
theorem of_pre (x0 : FVec Ideal S256x256x256 .f32) (x1 : FVec Ideal S1 .f32) (x2 : FVec Ideal S1x32 .f32) (x3 : FVec Ideal S32 .f32)
    (x4 : FVec Ideal S32x32 .f32) (x5 : FVec Ideal S32 .f32) (x6 : FVec Ideal S32x9 .f32) (x7 : FVec Ideal S9 .f32) (x8 : FVec Ideal S32x7 .f32)
    (x9 : FVec Ideal S7 .f32) (e : Cert.Pre_pre.fn (F := Ideal) x0 x1 x2 x3 x4 x5 x6 x7 x8 x9 = fun _ => 1#1) :
    (∀ i, ∃ X : ℝ, x0 i = ((X : ℝ) : EReal) ∧ 0 ≤ X ∧ X < 1) ∧ AllReal x1 ∧ AllReal x2 ∧ AllReal x3 ∧ AllReal x4 ∧ AllReal x5 ∧ AllReal x6 ∧ AllReal x7 ∧ AllReal x8 ∧ AllReal x9 := by
  have e := congrFun e (Shape.Idx.first h_S_)
  unfold Cert.Pre_pre.fn fn_part1 fn_part2 fn_part3 fn_part4 at e
  dsimp only at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨unit_of_all x0 _ _ _ _ _ _ e0, real_of_all x1 _ _ _ _ _ _ e1, real_of_all x2 _ _ _ _ _ _ e2, real_of_all x3 _ _ _ _ _ _ e3,
    real_of_all x4 _ _ _ _ _ _ e4, real_of_all x5 _ _ _ _ _ _ e5, real_of_all x6 _ _ _ _ _ _ e6, real_of_all x7 _ _ _ _ _ _ e7,
    real_of_all x8 _ _ _ _ _ _ e8, real_of_all x9 _ _ _ _ _ _ e9⟩

end Cert.Proof.Finite

end
-- ==== Proof.KernelIdealEval.lean ====
/- What the kernel's table holds and what a grid point stores from it: thirty-six words (segment starts, the four
   coefficients of each segment's cubic, and how many segments are in use) and, per element of the block, the cubic
   of the segment the element falls in. -/
module

public import proofs.«01_k».proof.Proof.Gen.KernelIdeal.Skeleton

@[expose] public section

set_option maxRecDepth 16384

noncomputable section

namespace Cert.Proof.KernelIdealEval

open Idealize.ShloMosaic Idealize.ShloMosaic.TcCoe
open Idealize.SL.Sem
open Cert.KernelIdeal Cert.KernelIdeal.Gen

variable {F : FTy → Type} [FloatOps F] [Named F]

/-! ## The table, as a vector of lanes -/

section Table

variable (x0 : Vec F S1x1 .f32) (x1 : Vec F S1x32 .f32) (x2 : Vec F S1x32 .f32) (x3 : Vec F S32x32 .f32)
  (x4 : Vec F S1x32 .f32) (x5 : Vec F S32x9 .f32) (x6 : Vec F S1x9 .f32) (x7 : Vec F S32x7 .f32) (x8 : Vec F S1x7 .f32)

/-- The lane numbers. -/
abbrev lanes : IVec S1x128 32 := iota .tc S1x128 32 [1] iota_S1x128_d1_w32
/-- The second hidden layer, as a column. -/
def hidden : FVec F S32x1 .f32 := k0_pay6 x0 x1 x2 x3 x4
/-- The spline weights in lanes 0 to 8. -/
def weights : FVec F S1x128 .f32 := k0_pay7 x0 x1 x2 x3 x4 x5 x6
/-- The softmax's running sums after windows of four. -/
def sums4 : FVec F S1x128 .f32 := k0_pay9 lanes (hidden x0 x1 x2 x3 x4) (k0_pay8 x7) x8
/-- Those sums four lanes on. -/
def sums4r : FVec F S1x128 .f32 := k0_pay10 lanes (hidden x0 x1 x2 x3 x4) (k0_pay8 x7) x8
/-- The knots from lane 0 on. -/
def knots : FVec F S1x128 .f32 := k0_pay11 lanes (sums4 x0 x1 x2 x3 x4 x7 x8) (sums4r x0 x1 x2 x3 x4 x7 x8)
/-- The coefficients from lane 0 on. -/
def coefs : FVec F S1x128 .f32 := k0_pay12 lanes (weights x0 x1 x2 x3 x4 x5 x6)

end Table

/-! ## From knots and coefficients to segments -/

section Segments

variable (T C : FVec F S1x128 .f32)

/-- The knots 1 lanes on. -/
def T1 : FVec F S1x128 .f32 := dynamicRotate 1 127#32 none T rotates_S1x128_d1
/-- The knots 2 lanes on. -/
def T2 : FVec F S1x128 .f32 := dynamicRotate 1 126#32 none T rotates_S1x128_d1
/-- The knots 3 lanes on. -/
def T3 : FVec F S1x128 .f32 := dynamicRotate 1 125#32 none T rotates_S1x128_d1
/-- The knots 4 lanes on. -/
def T4 : FVec F S1x128 .f32 := dynamicRotate 1 124#32 none T rotates_S1x128_d1
/-- The knots 5 lanes on. -/
def T5 : FVec F S1x128 .f32 := dynamicRotate 1 123#32 none T rotates_S1x128_d1
/-- The knots 6 lanes on. -/
def T6 : FVec F S1x128 .f32 := dynamicRotate 1 122#32 none T rotates_S1x128_d1
/-- The coefficients 1 lanes on. -/
def C1 : FVec F S1x128 .f32 := dynamicRotate 1 127#32 none C rotates_S1x128_d1
/-- The coefficients 2 lanes on. -/
def C2 : FVec F S1x128 .f32 := dynamicRotate 1 126#32 none C rotates_S1x128_d1
/-- The coefficients 3 lanes on. -/
def C3 : FVec F S1x128 .f32 := dynamicRotate 1 125#32 none C rotates_S1x128_d1
/-- The width of each lane's segment. -/
def width : FVec F S1x128 .f32 := subf (T4 T) (T3 T)
/-- The four interpolation points of each lane's segment. -/
def points : FVec F S4x128 .f32 :=
  addf (broadcastTo S4x128 (T3 T) broadcasts_S1x128_S4x128)
    (mulf (broadcastTo S4x128 (width T) broadcasts_S1x128_S4x128)
      (broadcastTo S4x128 (mulf (sitofp .f32 (iota .tc S4x1 32 [0] iota_S4x1_d0_w32)) (broadcast S4x1 (Named.named κ "third" 0x3EAAAAAB#32)))
        broadcasts_S4x1_S4x128))
/-- The spline at those points, as the kernel computes it. -/
def values : FVec F S4x128 .f32 :=
  k0_pay32 (T2 T) (T3 T) (T4 T) (points T)
    (k0_pay27 (T3 T) (T6 T) (C2 C) (C3 C) (points T)) (k0_pay28 (T2 T) (T5 T) (C1 C) (C2 C) (points T))
    (k0_pay29 (T1 T) (T4 T) (C1 C) (points T) (broadcastTo S4x128 (shapeCast S1x128 C shapeCasts_S1x128_S1x128) broadcasts_S1x128_S4x128))
    (k0_pay30 (T3 T) (T5 T) (points T)) (k0_pay31 (T2 T) (T3 T) (T5 T) (C1 C) (C2 C) (points T))

/-- The spline at point 0. -/
def val0 : FVec F S1x128 .f32 := extractStridedSlice S1x128 ![0, 0] (values T C) slices_S4x128_o0_0_S1x128
/-- The spline at point 1. -/
def val1 : FVec F S1x128 .f32 := extractStridedSlice S1x128 ![1, 0] (values T C) slices_S4x128_o1_0_S1x128
/-- The spline at point 2. -/
def val2 : FVec F S1x128 .f32 := extractStridedSlice S1x128 ![2, 0] (values T C) slices_S4x128_o2_0_S1x128
/-- The spline at point 3. -/
def val3 : FVec F S1x128 .f32 := extractStridedSlice S1x128 ![3, 0] (values T C) slices_S4x128_o3_0_S1x128
/-- The constant coefficient of each lane's cubic. -/
def coef0 : FVec F S1x128 .f32 :=
  addf (addf (addf (mulf (val0 T C) (broadcast S1x128 (Scalar.ofBits .f32 0x3F800000#32))) (mulf (val1 T C) (broadcast S1x128 (Scalar.ofBits .f32 0x00000000#32))))
    (mulf (val2 T C) (broadcast S1x128 (Scalar.ofBits .f32 0x00000000#32)))) (mulf (val3 T C) (broadcast S1x128 (Scalar.ofBits .f32 0x00000000#32)))
/-- The linear coefficient but for its last term. -/
def coef1a : FVec F S1x128 .f32 :=
  addf (addf (mulf (val0 T C) (broadcast S1x128 (Scalar.ofBits .f32 0xC0B00000#32))) (mulf (val1 T C) (broadcast S1x128 (Scalar.ofBits .f32 0x41100000#32))))
    (mulf (val2 T C) (broadcast S1x128 (Scalar.ofBits .f32 0xC0900000#32)))
/-- The linear coefficient. -/
def coef1 : FVec F S1x128 .f32 := k0_pay40 (width T) (val3 T C) (coef1a T C)
/-- The quadratic coefficient. -/
def coef2 : FVec F S1x128 .f32 := k0_pay42 (width T) (val0 T C) (val1 T C) (val2 T C) (val3 T C)
/-- The cubic coefficient. -/
def coef3 : FVec F S1x128 .f32 := k0_pay43 (width T) (val0 T C) (val1 T C) (val2 T C) (val3 T C)
/-- The table: starts, then the four coefficients, seven lanes each. -/
def table : FVec F S1x128 .f32 :=
  k0_pay47 lanes (coef1 T C) (coef2 T C) (coef3 T C) (k0_pay44 lanes (T3 T)) (k0_pay45 lanes) (k0_pay46 (coef0 T C))

end Segments

/-! ## The words the scratch memory holds -/

/-- The place of lane `n`, wrapped round. -/
abbrev laneIdx (n : ℕ) : S1x128.Idx := fun a => ⟨![0, n % 128] a, by fin_cases a <;> simp <;> omega⟩

/-- How many of the segments 1 to 6 start below one, as a number. -/
def inUse (t : FVec F S1x128 .f32) : F .f32 :=
  Scalar.sitofp .f32 ((List.range 6).foldl (fun acc s => Scalar.addi acc (Scalar.select (Scalar.cmpf .olt (t (laneIdx (s + 1))) (Scalar.ofBits .f32 0x3F800000#32)) 1#32 0#32)) 0#32)

/-- Word `n` of the scratch memory once the table is built. -/
def word (t : FVec F S1x128 .f32) (n : ℕ) : F .f32 := if n = 35 then inUse t else t (laneIdx n)

/-! ## What one element becomes -/

/-- The value of group `q` for the segment `x` falls in, among the first `k + 1`. -/
def chain (k q : ℕ) (e : ℕ → F .f32) (x : F .f32) : F .f32 :=
  (List.range k).foldl (fun acc s => Scalar.select (FloatOps.cmpf .oge x (e (s + 1))) (e (7 * q + (s + 1))) acc) (e (7 * q))

/-- The cubic of that segment at `x`, by Horner's rule from the segment's start. -/
def piece (k : ℕ) (e : ℕ → F .f32) (x : F .f32) : F .f32 :=
  FloatOps.addf (FloatOps.mulf (FloatOps.addf (FloatOps.mulf (FloatOps.addf (FloatOps.mulf (chain k 4 e x) (FloatOps.subf x (chain k 0 e x))) (chain k 3 e x))
    (FloatOps.subf x (chain k 0 e x))) (chain k 2 e x)) (FloatOps.subf x (chain k 0 e x))) (chain k 1 e x)

/-- At most two segments in use. -/
abbrev few (n : F .f32) : Prop :=
  Scalar.cmpi .ne (Scalar.extui (Scalar.cmpf .ole n (Scalar.ofBits .f32 0x40000000#32))) 0#32 = 1#1
/-- Three or four segments in use. -/
abbrev some34 (n : F .f32) : Prop :=
  Scalar.cmpi .ne (Scalar.extui (Scalar.andi (Scalar.cmpf .ogt n (Scalar.ofBits .f32 0x40000000#32)) (Scalar.cmpf .ole n (Scalar.ofBits .f32 0x40800000#32)))) 0#32 = 1#1
/-- More than four segments in use. -/
abbrev many (n : F .f32) : Prop :=
  Scalar.cmpi .ne (Scalar.extui (Scalar.cmpf .ogt n (Scalar.ofBits .f32 0x40800000#32))) 0#32 = 1#1

/-- How many segment boundaries a grid point compares with. -/
def depth (n : F .f32) : ℕ := open Classical in if many n then 6 else if some34 n then 4 else 2

/-- What a grid point stores for its block, from the words of the scratch memory. -/
def evalOut (e : ℕ → F .f32) (x : Vec F S16x256x256 .f32) : Vec F S16x256x256 .f32 := fun i => piece (depth (e 35)) e (x i)

/-! ## The three evaluations, element by element -/

theorem arm2 (e : ℕ → F .f32) (x : Vec F S16x256x256 .f32) :
    k0_pay2 (e 30) x (k0_pay88 (e 1) x) (k0_pay89 (e 2) x) (k0_pay90 (e 0) (e 1) (e 2) x) (k0_pay91 (e 1) (e 2) (e 7) (e 8) (e 9) x)
      (k0_pay92 (e 1) (e 2) (e 14) (e 15) (e 16) x) (k0_pay93 (e 1) (e 2) (e 21) (e 22) (e 23) x) (k0_pay94 (e 28)) (k0_pay95 (e 29))
      = fun i => piece 2 e (x i) := by funext i; rfl

theorem arm4 (e : ℕ → F .f32) (x : Vec F S16x256x256 .f32) (c1 c2 c3 c4 : IVec S16x256x256 1) (u v : FVec F S16x256x256 .f32)
    (h1 : c1 = k0_pay96 (e 1) x) (h2 : c2 = k0_pay97 (e 2) x) (h3 : c3 = k0_pay98 (e 3) x) (h4 : c4 = k0_pay99 (e 4) x)
    (hu : u = k0_pay100 (e 0) (e 1) (e 2) (e 3) (e 4) x c1 c2 c3 c4)
    (hv : v = k0_pay102 (e 21) (e 22) (e 23) (e 24) (e 25) c1 c2 c3 c4 (k0_pay101 (e 28) (e 29) (e 30) (e 31) (e 32) c1 c2 c3 c4 u)) :
    k0_pay103 (e 7) (e 8) (e 9) (e 10) (e 11) (e 14) (e 15) (e 16) (e 17) (e 18) c1 c2 c3 c4 u v
      = fun i => piece 4 e (x i) := by subst hv hu h1 h2 h3 h4; funext i; rfl

theorem arm6 (e : ℕ → F .f32) (x : Vec F S16x256x256 .f32) (c1 c2 c3 c4 c5 c6 : IVec S16x256x256 1)
    (h1 : c1 = k0_pay104 (e 1) x) (h2 : c2 = k0_pay105 (e 2) x) (h3 : c3 = k0_pay106 (e 3) x) (h4 : c4 = k0_pay107 (e 4) x)
    (h5 : c5 = k0_pay108 (e 5) x) (h6 : c6 = k0_pay109 (e 6) x) :
    k0_pay5 (e 19) (e 20) (e 34) x c4 c5 c6 (k0_pay110 (e 0) (e 1) (e 2) (e 3) (e 4) (e 5) (e 6) x)
      (k0_pay111 (e 1) (e 2) (e 3) (e 4) (e 5) (e 6) (e 7) (e 8) (e 9) (e 10) (e 11) (e 12) (e 13) x)
      (k0_pay112 (e 1) (e 2) (e 3) (e 14) (e 15) (e 16) (e 17) x) (k0_pay113 (e 18))
      (k0_pay3 (e 21) (e 22) (e 23) (e 24) (e 25) (e 26) (e 27) c1 c2 c3 c4 c5 c6)
      (k0_pay4 (e 28) (e 29) (e 30) (e 31) (e 32) (e 33) c1 c2 c3 c4 c5)
      = fun i => piece 6 e (x i) := by subst h1 h2 h3 h4 h5 h6; funext i; rfl

/-! ## Words read off the table -/

theorem lane_eq (t : FVec F S1x128 .f32) (n : ℕ) (hn : n < 128) (i : S1x128.Idx) (h : (i 1).val = n) : t i = t (laneIdx n) := by
  refine congrArg t (funext fun a => Fin.ext ?_)
  fin_cases a
  · have := (i 0).isLt
    simp only [S1x128, Shape.size] at this ⊢
    change (i 0).val < 1 at this
    show (i 0).val = 0
    omega
  · show (i 1).val = n % 128
    rw [h, Nat.mod_eq_of_lt hn]

theorem word6 (t : FVec F S1x128 .f32) : k0_pay54 t = word t 6 := lane_eq t 6 (by decide) _ rfl
theorem word7 (t : FVec F S1x128 .f32) : k0_pay55 t = word t 7 := lane_eq t 7 (by decide) _ rfl
theorem word8 (t : FVec F S1x128 .f32) : k0_pay56 t = word t 8 := lane_eq t 8 (by decide) _ rfl
theorem word9 (t : FVec F S1x128 .f32) : k0_pay57 t = word t 9 := lane_eq t 9 (by decide) _ rfl
theorem word10 (t : FVec F S1x128 .f32) : k0_pay58 t = word t 10 := lane_eq t 10 (by decide) _ rfl
theorem word11 (t : FVec F S1x128 .f32) : k0_pay59 t = word t 11 := lane_eq t 11 (by decide) _ rfl
theorem word12 (t : FVec F S1x128 .f32) : k0_pay60 t = word t 12 := lane_eq t 12 (by decide) _ rfl
theorem word13 (t : FVec F S1x128 .f32) : k0_pay61 t = word t 13 := lane_eq t 13 (by decide) _ rfl
theorem word14 (t : FVec F S1x128 .f32) : k0_pay62 t = word t 14 := lane_eq t 14 (by decide) _ rfl
theorem word15 (t : FVec F S1x128 .f32) : k0_pay63 t = word t 15 := lane_eq t 15 (by decide) _ rfl
theorem word16 (t : FVec F S1x128 .f32) : k0_pay64 t = word t 16 := lane_eq t 16 (by decide) _ rfl
theorem word17 (t : FVec F S1x128 .f32) : k0_pay65 t = word t 17 := lane_eq t 17 (by decide) _ rfl
theorem word18 (t : FVec F S1x128 .f32) : k0_pay66 t = word t 18 := lane_eq t 18 (by decide) _ rfl
theorem word19 (t : FVec F S1x128 .f32) : k0_pay67 t = word t 19 := lane_eq t 19 (by decide) _ rfl
theorem word20 (t : FVec F S1x128 .f32) : k0_pay68 t = word t 20 := lane_eq t 20 (by decide) _ rfl
theorem word21 (t : FVec F S1x128 .f32) : k0_pay69 t = word t 21 := lane_eq t 21 (by decide) _ rfl
theorem word22 (t : FVec F S1x128 .f32) : k0_pay70 t = word t 22 := lane_eq t 22 (by decide) _ rfl
theorem word23 (t : FVec F S1x128 .f32) : k0_pay71 t = word t 23 := lane_eq t 23 (by decide) _ rfl
theorem word24 (t : FVec F S1x128 .f32) : k0_pay72 t = word t 24 := lane_eq t 24 (by decide) _ rfl
theorem word25 (t : FVec F S1x128 .f32) : k0_pay73 t = word t 25 := lane_eq t 25 (by decide) _ rfl
theorem word26 (t : FVec F S1x128 .f32) : k0_pay74 t = word t 26 := lane_eq t 26 (by decide) _ rfl
theorem word27 (t : FVec F S1x128 .f32) : k0_pay75 t = word t 27 := lane_eq t 27 (by decide) _ rfl
theorem word28 (t : FVec F S1x128 .f32) : k0_pay76 t = word t 28 := lane_eq t 28 (by decide) _ rfl
theorem word29 (t : FVec F S1x128 .f32) : k0_pay77 t = word t 29 := lane_eq t 29 (by decide) _ rfl
theorem word30 (t : FVec F S1x128 .f32) : k0_pay78 t = word t 30 := lane_eq t 30 (by decide) _ rfl
theorem word31 (t : FVec F S1x128 .f32) : k0_pay79 t = word t 31 := lane_eq t 31 (by decide) _ rfl
theorem word32 (t : FVec F S1x128 .f32) : k0_pay80 t = word t 32 := lane_eq t 32 (by decide) _ rfl
theorem word33 (t : FVec F S1x128 .f32) : k0_pay81 t = word t 33 := lane_eq t 33 (by decide) _ rfl
theorem word34 (t : FVec F S1x128 .f32) : k0_pay82 t = word t 34 := lane_eq t 34 (by decide) _ rfl
theorem word0 (v : IVec S1x128 32) (c1 c2 c3 s : FVec F S1x128 .f32) (g : IVec S1x128 1) (r : FVec F S1x128 .f32) :
    k0_pay48 v c1 c2 c3 s g r = word (k0_pay47 v c1 c2 c3 s g r) 0 := by
  unfold k0_pay48; generalize k0_pay47 v c1 c2 c3 s g r = t; exact lane_eq t 0 (by decide) _ rfl
theorem word1 (v : IVec S1x128 32) (c1 c2 c3 s : FVec F S1x128 .f32) (g : IVec S1x128 1) (r : FVec F S1x128 .f32) :
    k0_pay49 v c1 c2 c3 s g r = word (k0_pay47 v c1 c2 c3 s g r) 1 := by
  unfold k0_pay49; generalize k0_pay47 v c1 c2 c3 s g r = t; exact lane_eq t 1 (by decide) _ rfl
theorem word2 (v : IVec S1x128 32) (c1 c2 c3 s : FVec F S1x128 .f32) (g : IVec S1x128 1) (r : FVec F S1x128 .f32) :
    k0_pay50 v c1 c2 c3 s g r = word (k0_pay47 v c1 c2 c3 s g r) 2 := by
  unfold k0_pay50; generalize k0_pay47 v c1 c2 c3 s g r = t; exact lane_eq t 2 (by decide) _ rfl
theorem word3 (v : IVec S1x128 32) (c1 c2 c3 s : FVec F S1x128 .f32) (g : IVec S1x128 1) (r : FVec F S1x128 .f32) :
    k0_pay51 v c1 c2 c3 s g r = word (k0_pay47 v c1 c2 c3 s g r) 3 := by
  unfold k0_pay51; generalize k0_pay47 v c1 c2 c3 s g r = t; exact lane_eq t 3 (by decide) _ rfl
theorem word4 (v : IVec S1x128 32) (c1 c2 c3 s : FVec F S1x128 .f32) (g : IVec S1x128 1) (r : FVec F S1x128 .f32) :
    k0_pay52 v c1 c2 c3 s g r = word (k0_pay47 v c1 c2 c3 s g r) 4 := by
  unfold k0_pay52; generalize k0_pay47 v c1 c2 c3 s g r = t; exact lane_eq t 4 (by decide) _ rfl
theorem word5 (v : IVec S1x128 32) (c1 c2 c3 s : FVec F S1x128 .f32) (g : IVec S1x128 1) (r : FVec F S1x128 .f32) :
    k0_pay53 v c1 c2 c3 s g r = word (k0_pay47 v c1 c2 c3 s g r) 5 := by
  unfold k0_pay53; generalize k0_pay47 v c1 c2 c3 s g r = t; exact lane_eq t 5 (by decide) _ rfl

/-- The count the kernel takes with scalar comparisons is word 35. -/
theorem word35 (t : FVec F S1x128 .f32) (v : BitVec 32)
    (hv : v = Scalar.addi (Scalar.addi (Scalar.addi (Scalar.addi 0#32
      (Scalar.select (Scalar.cmpf .olt (k0_pay83 t) (Scalar.ofBits .f32 0x3F800000#32)) 1#32 0#32))
      (Scalar.select (Scalar.cmpf .olt (k0_pay84 t) (Scalar.ofBits .f32 0x3F800000#32)) 1#32 0#32))
      (Scalar.select (Scalar.cmpf .olt (k0_pay85 t) (Scalar.ofBits .f32 0x3F800000#32)) 1#32 0#32))
      (Scalar.select (Scalar.cmpf .olt (k0_pay86 t) (Scalar.ofBits .f32 0x3F800000#32)) 1#32 0#32)) :
    k0_pay1 t v (k0_pay87 t) = word t 35 := by
  have h1 : k0_pay83 t = t (laneIdx 1) := lane_eq t 1 (by decide) _ rfl
  have h2 : k0_pay84 t = t (laneIdx 2) := lane_eq t 2 (by decide) _ rfl
  have h3 : k0_pay85 t = t (laneIdx 3) := lane_eq t 3 (by decide) _ rfl
  have h4 : k0_pay86 t = t (laneIdx 4) := lane_eq t 4 (by decide) _ rfl
  have h5 : extractAt ![0, 0] (k0_pay87 t) inpos_S1x1_p0_0 = t (laneIdx 5) := lane_eq t 5 (by decide) _ rfl
  have h6 : extractAt ![0, 0] (extractStridedSlice S1x1 ![0, 6] t slices_S1x128_o0_6_S1x1) inpos_S1x1_p0_0 = t (laneIdx 6) :=
    lane_eq t 6 (by decide) _ rfl
  subst hv
  rw [h1, h2, h3, h4]
  unfold k0_pay1
  dsimp only
  rw [h5, h6]
  rfl

section Spelt

variable (a b w : FVec F S1x128 .f32)

theorem spelt_T1 : k0_pay13 lanes a b = T1 (k0_pay11 lanes a b) := rfl
theorem spelt_T2 : k0_pay14 lanes a b = T2 (k0_pay11 lanes a b) := rfl
theorem spelt_T3 : k0_pay15 lanes a b = T3 (k0_pay11 lanes a b) := rfl
theorem spelt_T4 : k0_pay16 lanes a b = T4 (k0_pay11 lanes a b) := rfl
theorem spelt_T5 : k0_pay17 lanes a b = T5 (k0_pay11 lanes a b) := rfl
theorem spelt_T6 : k0_pay18 lanes a b = T6 (k0_pay11 lanes a b) := rfl
theorem spelt_C1 : k0_pay19 lanes w = C1 (k0_pay12 lanes w) := rfl
theorem spelt_C2 : k0_pay20 lanes w = C2 (k0_pay12 lanes w) := rfl
theorem spelt_C3 : k0_pay21 lanes w = C3 (k0_pay12 lanes w) := rfl
theorem spelt_width : k0_pay22 lanes a b = width (k0_pay11 lanes a b) := rfl
theorem spelt_points : k0_pay23 lanes a b = points (k0_pay11 lanes a b) := rfl
theorem spelt_C0 : k0_pay24 lanes w = broadcastTo S4x128 (shapeCast S1x128 (k0_pay12 lanes w) shapeCasts_S1x128_S1x128) broadcasts_S1x128_S4x128 := rfl

end Spelt

section Spelt4

variable (p q r : FVec F S1x128 .f32) (c d e f g h : FVec F S4x128 .f32)

theorem spelt_val0 : k0_pay33 p q r c d e f g h = extractStridedSlice S1x128 ![0, 0] (k0_pay32 p q r c d e f g h) slices_S4x128_o0_0_S1x128 := rfl
theorem spelt_val1 : k0_pay34 p q r c d e f g h = extractStridedSlice S1x128 ![1, 0] (k0_pay32 p q r c d e f g h) slices_S4x128_o1_0_S1x128 := rfl
theorem spelt_val2 : k0_pay35 p q r c d e f g h = extractStridedSlice S1x128 ![2, 0] (k0_pay32 p q r c d e f g h) slices_S4x128_o2_0_S1x128 := rfl
theorem spelt_val3 : k0_pay36 p q r c d e f g h = extractStridedSlice S1x128 ![3, 0] (k0_pay32 p q r c d e f g h) slices_S4x128_o3_0_S1x128 := rfl
theorem spelt_coef0 : k0_pay37 p q r c d e f g h =
    addf (addf (addf (mulf (k0_pay33 p q r c d e f g h) (broadcast S1x128 (Scalar.ofBits .f32 0x3F800000#32))) (mulf (k0_pay34 p q r c d e f g h) (broadcast S1x128 (Scalar.ofBits .f32 0x00000000#32))))
      (mulf (k0_pay35 p q r c d e f g h) (broadcast S1x128 (Scalar.ofBits .f32 0x00000000#32)))) (mulf (k0_pay36 p q r c d e f g h) (broadcast S1x128 (Scalar.ofBits .f32 0x00000000#32))) := rfl
theorem spelt_coef1a : k0_pay38 p q r c d e f g h =
    addf (addf (mulf (k0_pay33 p q r c d e f g h) (broadcast S1x128 (Scalar.ofBits .f32 0xC0B00000#32))) (mulf (k0_pay34 p q r c d e f g h) (broadcast S1x128 (Scalar.ofBits .f32 0x41100000#32))))
      (mulf (k0_pay35 p q r c d e f g h) (broadcast S1x128 (Scalar.ofBits .f32 0xC0900000#32))) := rfl

end Spelt4

/-- The table as the kernel's payloads spell it. -/
theorem table_eq (x0 : Vec F S1x1 .f32) (x1 : Vec F S1x32 .f32) (x2 : Vec F S1x32 .f32) (x3 : Vec F S32x32 .f32)
    (x4 : Vec F S1x32 .f32) (x5 : Vec F S32x9 .f32) (x6 : Vec F S1x9 .f32) (x7 : Vec F S32x7 .f32) (x8 : Vec F S1x7 .f32) (v : IVec S1x128 32)
    (hv : v = lanes) (v41 : FVec F S32x1 .f32) (h41 : v41 = k0_pay6 x0 x1 x2 x3 x4) (v53 : FVec F S1x128 .f32) (h53 : v53 = k0_pay7 x0 x1 x2 x3 x4 x5 x6)
    (v92 v97 : FVec F S1x128 .f32) (h92 : v92 = k0_pay9 v v41 (k0_pay8 x7) x8) (h97 : v97 = k0_pay10 v v41 (k0_pay8 x7) x8) :
    k0_pay47 v (k0_pay40 (k0_pay22 v v92 v97) (k0_pay36 (k0_pay14 v v92 v97) (k0_pay15 v v92 v97) (k0_pay16 v v92 v97) (k0_pay23 v v92 v97) (k0_pay27 (k0_pay15 v v92 v97) (k0_pay18 v v92 v97) (k0_pay20 v v53) (k0_pay21 v v53) (k0_pay23 v v92 v97)) (k0_pay28 (k0_pay14 v v92 v97) (k0_pay17 v v92 v97) (k0_pay19 v v53) (k0_pay20 v v53) (k0_pay23 v v92 v97)) (k0_pay29 (k0_pay13 v v92 v97) (k0_pay16 v v92 v97) (k0_pay19 v v53) (k0_pay23 v v92 v97) (k0_pay24 v v53)) (k0_pay30 (k0_pay15 v v92 v97) (k0_pay17 v v92 v97) (k0_pay23 v v92 v97)) (k0_pay31 (k0_pay14 v v92 v97) (k0_pay15 v v92 v97) (k0_pay17 v v92 v97) (k0_pay19 v v53) (k0_pay20 v v53) (k0_pay23 v v92 v97))) (k0_pay38 (k0_pay14 v v92 v97) (k0_pay15 v v92 v97) (k0_pay16 v v92 v97) (k0_pay23 v v92 v97) (k0_pay27 (k0_pay15 v v92 v97) (k0_pay18 v v92 v97) (k0_pay20 v v53) (k0_pay21 v v53) (k0_pay23 v v92 v97)) (k0_pay28 (k0_pay14 v v92 v97) (k0_pay17 v v92 v97) (k0_pay19 v v53) (k0_pay20 v v53) (k0_pay23 v v92 v97)) (k0_pay29 (k0_pay13 v v92 v97) (k0_pay16 v v92 v97) (k0_pay19 v v53) (k0_pay23 v v92 v97) (k0_pay24 v v53)) (k0_pay30 (k0_pay15 v v92 v97) (k0_pay17 v v92 v97) (k0_pay23 v v92 v97)) (k0_pay31 (k0_pay14 v v92 v97) (k0_pay15 v v92 v97) (k0_pay17 v v92 v97) (k0_pay19 v v53) (k0_pay20 v v53) (k0_pay23 v v92 v97)))) (k0_pay42 (k0_pay22 v v92 v97) (k0_pay33 (k0_pay14 v v92 v97) (k0_pay15 v v92 v97) (k0_pay16 v v92 v97) (k0_pay23 v v92 v97) (k0_pay27 (k0_pay15 v v92 v97) (k0_pay18 v v92 v97) (k0_pay20 v v53) (k0_pay21 v v53) (k0_pay23 v v92 v97)) (k0_pay28 (k0_pay14 v v92 v97) (k0_pay17 v v92 v97) (k0_pay19 v v53) (k0_pay20 v v53) (k0_pay23 v v92 v97)) (k0_pay29 (k0_pay13 v v92 v97) (k0_pay16 v v92 v97) (k0_pay19 v v53) (k0_pay23 v v92 v97) (k0_pay24 v v53)) (k0_pay30 (k0_pay15 v v92 v97) (k0_pay17 v v92 v97) (k0_pay23 v v92 v97)) (k0_pay31 (k0_pay14 v v92 v97) (k0_pay15 v v92 v97) (k0_pay17 v v92 v97) (k0_pay19 v v53) (k0_pay20 v v53) (k0_pay23 v v92 v97))) (k0_pay34 (k0_pay14 v v92 v97) (k0_pay15 v v92 v97) (k0_pay16 v v92 v97) (k0_pay23 v v92 v97) (k0_pay27 (k0_pay15 v v92 v97) (k0_pay18 v v92 v97) (k0_pay20 v v53) (k0_pay21 v v53) (k0_pay23 v v92 v97)) (k0_pay28 (k0_pay14 v v92 v97) (k0_pay17 v v92 v97) (k0_pay19 v v53) (k0_pay20 v v53) (k0_pay23 v v92 v97)) (k0_pay29 (k0_pay13 v v92 v97) (k0_pay16 v v92 v97) (k0_pay19 v v53) (k0_pay23 v v92 v97) (k0_pay24 v v53)) (k0_pay30 (k0_pay15 v v92 v97) (k0_pay17 v v92 v97) (k0_pay23 v v92 v97)) (k0_pay31 (k0_pay14 v v92 v97) (k0_pay15 v v92 v97) (k0_pay17 v v92 v97) (k0_pay19 v v53) (k0_pay20 v v53) (k0_pay23 v v92 v97))) (k0_pay35 (k0_pay14 v v92 v97) (k0_pay15 v v92 v97) (k0_pay16 v v92 v97) (k0_pay23 v v92 v97) (k0_pay27 (k0_pay15 v v92 v97) (k0_pay18 v v92 v97) (k0_pay20 v v53) (k0_pay21 v v53) (k0_pay23 v v92 v97)) (k0_pay28 (k0_pay14 v v92 v97) (k0_pay17 v v92 v97) (k0_pay19 v v53) (k0_pay20 v v53) (k0_pay23 v v92 v97)) (k0_pay29 (k0_pay13 v v92 v97) (k0_pay16 v v92 v97) (k0_pay19 v v53) (k0_pay23 v v92 v97) (k0_pay24 v v53)) (k0_pay30 (k0_pay15 v v92 v97) (k0_pay17 v v92 v97) (k0_pay23 v v92 v97)) (k0_pay31 (k0_pay14 v v92 v97) (k0_pay15 v v92 v97) (k0_pay17 v v92 v97) (k0_pay19 v v53) (k0_pay20 v v53) (k0_pay23 v v92 v97))) (k0_pay36 (k0_pay14 v v92 v97) (k0_pay15 v v92 v97) (k0_pay16 v v92 v97) (k0_pay23 v v92 v97) (k0_pay27 (k0_pay15 v v92 v97) (k0_pay18 v v92 v97) (k0_pay20 v v53) (k0_pay21 v v53) (k0_pay23 v v92 v97)) (k0_pay28 (k0_pay14 v v92 v97) (k0_pay17 v v92 v97) (k0_pay19 v v53) (k0_pay20 v v53) (k0_pay23 v v92 v97)) (k0_pay29 (k0_pay13 v v92 v97) (k0_pay16 v v92 v97) (k0_pay19 v v53) (k0_pay23 v v92 v97) (k0_pay24 v v53)) (k0_pay30 (k0_pay15 v v92 v97) (k0_pay17 v v92 v97) (k0_pay23 v v92 v97)) (k0_pay31 (k0_pay14 v v92 v97) (k0_pay15 v v92 v97) (k0_pay17 v v92 v97) (k0_pay19 v v53) (k0_pay20 v v53) (k0_pay23 v v92 v97))))
      (k0_pay43 (k0_pay22 v v92 v97) (k0_pay33 (k0_pay14 v v92 v97) (k0_pay15 v v92 v97) (k0_pay16 v v92 v97) (k0_pay23 v v92 v97) (k0_pay27 (k0_pay15 v v92 v97) (k0_pay18 v v92 v97) (k0_pay20 v v53) (k0_pay21 v v53) (k0_pay23 v v92 v97)) (k0_pay28 (k0_pay14 v v92 v97) (k0_pay17 v v92 v97) (k0_pay19 v v53) (k0_pay20 v v53) (k0_pay23 v v92 v97)) (k0_pay29 (k0_pay13 v v92 v97) (k0_pay16 v v92 v97) (k0_pay19 v v53) (k0_pay23 v v92 v97) (k0_pay24 v v53)) (k0_pay30 (k0_pay15 v v92 v97) (k0_pay17 v v92 v97) (k0_pay23 v v92 v97)) (k0_pay31 (k0_pay14 v v92 v97) (k0_pay15 v v92 v97) (k0_pay17 v v92 v97) (k0_pay19 v v53) (k0_pay20 v v53) (k0_pay23 v v92 v97))) (k0_pay34 (k0_pay14 v v92 v97) (k0_pay15 v v92 v97) (k0_pay16 v v92 v97) (k0_pay23 v v92 v97) (k0_pay27 (k0_pay15 v v92 v97) (k0_pay18 v v92 v97) (k0_pay20 v v53) (k0_pay21 v v53) (k0_pay23 v v92 v97)) (k0_pay28 (k0_pay14 v v92 v97) (k0_pay17 v v92 v97) (k0_pay19 v v53) (k0_pay20 v v53) (k0_pay23 v v92 v97)) (k0_pay29 (k0_pay13 v v92 v97) (k0_pay16 v v92 v97) (k0_pay19 v v53) (k0_pay23 v v92 v97) (k0_pay24 v v53)) (k0_pay30 (k0_pay15 v v92 v97) (k0_pay17 v v92 v97) (k0_pay23 v v92 v97)) (k0_pay31 (k0_pay14 v v92 v97) (k0_pay15 v v92 v97) (k0_pay17 v v92 v97) (k0_pay19 v v53) (k0_pay20 v v53) (k0_pay23 v v92 v97))) (k0_pay35 (k0_pay14 v v92 v97) (k0_pay15 v v92 v97) (k0_pay16 v v92 v97) (k0_pay23 v v92 v97) (k0_pay27 (k0_pay15 v v92 v97) (k0_pay18 v v92 v97) (k0_pay20 v v53) (k0_pay21 v v53) (k0_pay23 v v92 v97)) (k0_pay28 (k0_pay14 v v92 v97) (k0_pay17 v v92 v97) (k0_pay19 v v53) (k0_pay20 v v53) (k0_pay23 v v92 v97)) (k0_pay29 (k0_pay13 v v92 v97) (k0_pay16 v v92 v97) (k0_pay19 v v53) (k0_pay23 v v92 v97) (k0_pay24 v v53)) (k0_pay30 (k0_pay15 v v92 v97) (k0_pay17 v v92 v97) (k0_pay23 v v92 v97)) (k0_pay31 (k0_pay14 v v92 v97) (k0_pay15 v v92 v97) (k0_pay17 v v92 v97) (k0_pay19 v v53) (k0_pay20 v v53) (k0_pay23 v v92 v97))) (k0_pay36 (k0_pay14 v v92 v97) (k0_pay15 v v92 v97) (k0_pay16 v v92 v97) (k0_pay23 v v92 v97) (k0_pay27 (k0_pay15 v v92 v97) (k0_pay18 v v92 v97) (k0_pay20 v v53) (k0_pay21 v v53) (k0_pay23 v v92 v97)) (k0_pay28 (k0_pay14 v v92 v97) (k0_pay17 v v92 v97) (k0_pay19 v v53) (k0_pay20 v v53) (k0_pay23 v v92 v97)) (k0_pay29 (k0_pay13 v v92 v97) (k0_pay16 v v92 v97) (k0_pay19 v v53) (k0_pay23 v v92 v97) (k0_pay24 v v53)) (k0_pay30 (k0_pay15 v v92 v97) (k0_pay17 v v92 v97) (k0_pay23 v v92 v97)) (k0_pay31 (k0_pay14 v v92 v97) (k0_pay15 v v92 v97) (k0_pay17 v v92 v97) (k0_pay19 v v53) (k0_pay20 v v53) (k0_pay23 v v92 v97))))
      (k0_pay44 v (k0_pay15 v v92 v97)) (k0_pay45 v) (k0_pay46 (k0_pay37 (k0_pay14 v v92 v97) (k0_pay15 v v92 v97) (k0_pay16 v v92 v97) (k0_pay23 v v92 v97) (k0_pay27 (k0_pay15 v v92 v97) (k0_pay18 v v92 v97) (k0_pay20 v v53) (k0_pay21 v v53) (k0_pay23 v v92 v97)) (k0_pay28 (k0_pay14 v v92 v97) (k0_pay17 v v92 v97) (k0_pay19 v v53) (k0_pay20 v v53) (k0_pay23 v v92 v97)) (k0_pay29 (k0_pay13 v v92 v97) (k0_pay16 v v92 v97) (k0_pay19 v v53) (k0_pay23 v v92 v97) (k0_pay24 v v53)) (k0_pay30 (k0_pay15 v v92 v97) (k0_pay17 v v92 v97) (k0_pay23 v v92 v97)) (k0_pay31 (k0_pay14 v v92 v97) (k0_pay15 v v92 v97) (k0_pay17 v v92 v97) (k0_pay19 v v53) (k0_pay20 v v53) (k0_pay23 v v92 v97))))
      = table (knots x0 x1 x2 x3 x4 x7 x8) (coefs x0 x1 x2 x3 x4 x5 x6) := by
  subst h97 h92 h53 h41 hv
  simp only [spelt_T1, spelt_T2, spelt_T3, spelt_T4, spelt_T5, spelt_T6, spelt_C1, spelt_C2, spelt_C3, spelt_width, spelt_points, spelt_C0,
    spelt_coef0, spelt_coef1a, spelt_val0, spelt_val1, spelt_val2, spelt_val3]
  unfold table coef0 coef1 coef1a coef2 coef3 val0 val1 val2 val3 values knots coefs sums4 sums4r weights hidden
  with_reducible rfl

end Cert.Proof.KernelIdealEval

end
-- ==== Proof.KernelIdealValueRun.lean ====
/- One run of the kernel's body at known contents: the table it builds or keeps, and the block it stores. -/
module

public import proofs.«01_k».proof.Proof.Gen.KernelIdeal.Frame
public import proofs.«01_k».proof.Proof.Gen.KernelIdeal.Skeleton
public import proofs.«01_k».proof.Proof.KernelIdealRun
public import proofs.«01_k».proof.Proof.KernelIdealEval
public import Idealize.ShloMosaic.Lib.WordCmp
public import Idealize.ShloMosaic.Lib.CellWrites
public import Idealize.ShloMosaic.Lib.VecWindow
public import Idealize.ShloMosaic.Lib.WholeRead

@[expose] public section

set_option maxRecDepth 16384

noncomputable section

namespace Cert.Proof.KernelIdealValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Proof.KernelIdealEval
open Cert.Proof.KernelIdealRun (atStart)

variable {F : FTy → Type} [FloatOps F] [Named F]

local notation "𝕄" => MT nD τ sig Unit (Elt F) ℕ (UR sig nD τ) ℕ

/-- The scratch words 0 to 35 are `e`. -/
def Tabled (e : ℕ → F .f32) (d : S64.Idx → Elt F .f32) : Prop := ∀ i : S64.Idx, (i 0).val < 36 → d i = e (i 0).val

/-- The words the table consists of, for a core's inputs. -/
def words (x0 : Vec F S1x1 .f32) (x1 : Vec F S1x32 .f32) (x2 : Vec F S1x32 .f32) (x3 : Vec F S32x32 .f32) (x4 : Vec F S1x32 .f32) (x5 : Vec F S32x9 .f32) (x6 : Vec F S1x9 .f32) (x7 : Vec F S32x7 .f32) (x8 : Vec F S1x7 .f32) : ℕ → F .f32 :=
  word (table (knots x0 x1 x2 x3 x4 x7 x8) (coefs x0 x1 x2 x3 x4 x5 x6))

/-- One of the three evaluations is taken. -/
def Taken (n : F .f32) : Prop := few n ∨ some34 n ∨ many n

/-- The inputs at their contents. -/
def inputs (c : Dev nD) (arg1 : Memref sig .tc .vmem S1x1 .f32) (arg2 : Memref sig .tc .vmem S1x32 .f32) (arg3 : Memref sig .tc .vmem S1x32 .f32) (arg4 : Memref sig .tc .vmem S32x32 .f32) (arg5 : Memref sig .tc .vmem S1x32 .f32) (arg6 : Memref sig .tc .vmem S32x9 .f32) (arg7 : Memref sig .tc .vmem S1x9 .f32) (arg8 : Memref sig .tc .vmem S32x7 .f32) (arg9 : Memref sig .tc .vmem S1x7 .f32) (arg10 : Memref sig .tc .vmem S16x256x256 .f32) (arg11 : Memref sig .tc .vmem S16x256x256 .f32) (arg12 : Memref sig .tc .smem S64 .f32)
    (x0 : Vec F S1x1 .f32) (x1 : Vec F S1x32 .f32) (x2 : Vec F S1x32 .f32) (x3 : Vec F S32x32 .f32) (x4 : Vec F S1x32 .f32) (x5 : Vec F S32x9 .f32) (x6 : Vec F S1x9 .f32) (x7 : Vec F S32x7 .f32) (x8 : Vec F S1x7 .f32) (x9 : Vec F S16x256x256 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9)

/-- A word read from the scratch memory. -/
theorem word_read (M : Memref sig .tc .smem S64 .f32) (f : M.view.ty.Contents (Elt F)) (e : ℕ → F .f32) (k : ℕ) (hk : k < 36)
    (inb : ∀ a, (![k] : Fin 1 → ℕ) a + S1.size a ≤ S64.size a) (h : Tabled e (M.view.read (Elt F) f)) (i) :
    View.readAt (Elt F) M.view (Rect.unit (s := S64) ![k] S1.size inb).toLoadRect f i = e k := by
  rw [View.readAt_apply]
  have hv : (((Rect.unit (s := S64) ![k] S1.size inb).toLoadRect.idx i) 0).val = k := by
    have h0 : (i 0).val < 1 := (i 0).isLt
    show k + 1 * (i 0).val = k
    omega
  rw [h _ (by rw [hv]; exact hk), hv]

/-- A whole block read from a buffer holding it. -/
theorem flat_read {s : Shape} (hs : s.rank = 2) (M : Memref sig .tc .vmem s .f32) (h : M.IsWhole) (x : s.Idx → Elt F .f32) (off : Fin s.rank → ℕ)
    (hoff : ∀ a, off a = 0) (inb : ∀ a, off a + s.size a ≤ s.size a) :
    View.readAt (Elt F) M.view (Rect.unit (s := s) off s.size inb).toLoadRect (h.unread x) = x := by
  funext j
  rw [h.readAt_unread]
  refine congrArg x (funext fun a => Fin.ext ?_)
  show off a + 1 * (j a).val = (j a).val
  rw [hoff a]; omega

/-- The scratch words once all thirty-six are stored. -/
theorem tabled_writes (M : Memref sig .tc .smem S64 .f32) (f : M.view.ty.Contents (Elt F)) (e : ℕ → F .f32) :
    Tabled e (M.view.read (Elt F) (M.view.writes (Elt F) f
      [⟨Rect.unit ![35] ![1] inb_S64_S1_35, fun _ => e 35⟩, ⟨Rect.unit ![34] ![1] inb_S64_S1_34, fun _ => e 34⟩, ⟨Rect.unit ![33] ![1] inb_S64_S1_33, fun _ => e 33⟩, ⟨Rect.unit ![32] ![1] inb_S64_S1_32, fun _ => e 32⟩, ⟨Rect.unit ![31] ![1] inb_S64_S1_31, fun _ => e 31⟩, ⟨Rect.unit ![30] ![1] inb_S64_S1_30, fun _ => e 30⟩, ⟨Rect.unit ![29] ![1] inb_S64_S1_29, fun _ => e 29⟩, ⟨Rect.unit ![28] ![1] inb_S64_S1_28, fun _ => e 28⟩, ⟨Rect.unit ![27] ![1] inb_S64_S1_27, fun _ => e 27⟩, ⟨Rect.unit ![26] ![1] inb_S64_S1_26, fun _ => e 26⟩, ⟨Rect.unit ![25] ![1] inb_S64_S1_25, fun _ => e 25⟩, ⟨Rect.unit ![24] ![1] inb_S64_S1_24, fun _ => e 24⟩, ⟨Rect.unit ![23] ![1] inb_S64_S1_23, fun _ => e 23⟩, ⟨Rect.unit ![22] ![1] inb_S64_S1_22, fun _ => e 22⟩, ⟨Rect.unit ![21] ![1] inb_S64_S1_21, fun _ => e 21⟩, ⟨Rect.unit ![20] ![1] inb_S64_S1_20, fun _ => e 20⟩, ⟨Rect.unit ![19] ![1] inb_S64_S1_19, fun _ => e 19⟩, ⟨Rect.unit ![18] ![1] inb_S64_S1_18, fun _ => e 18⟩, ⟨Rect.unit ![17] ![1] inb_S64_S1_17, fun _ => e 17⟩, ⟨Rect.unit ![16] ![1] inb_S64_S1_16, fun _ => e 16⟩, ⟨Rect.unit ![15] ![1] inb_S64_S1_15, fun _ => e 15⟩, ⟨Rect.unit ![14] ![1] inb_S64_S1_14, fun _ => e 14⟩, ⟨Rect.unit ![13] ![1] inb_S64_S1_13, fun _ => e 13⟩, ⟨Rect.unit ![12] ![1] inb_S64_S1_12, fun _ => e 12⟩, ⟨Rect.unit ![11] ![1] inb_S64_S1_11, fun _ => e 11⟩, ⟨Rect.unit ![10] ![1] inb_S64_S1_10, fun _ => e 10⟩, ⟨Rect.unit ![9] ![1] inb_S64_S1_9, fun _ => e 9⟩, ⟨Rect.unit ![8] ![1] inb_S64_S1_8, fun _ => e 8⟩, ⟨Rect.unit ![7] ![1] inb_S64_S1_7, fun _ => e 7⟩, ⟨Rect.unit ![6] ![1] inb_S64_S1_6, fun _ => e 6⟩, ⟨Rect.unit ![5] ![1] inb_S64_S1_5, fun _ => e 5⟩, ⟨Rect.unit ![4] ![1] inb_S64_S1_4, fun _ => e 4⟩, ⟨Rect.unit ![3] ![1] inb_S64_S1_3, fun _ => e 3⟩, ⟨Rect.unit ![2] ![1] inb_S64_S1_2, fun _ => e 2⟩, ⟨Rect.unit ![1] ![1] inb_S64_S1_1, fun _ => e 1⟩, ⟨Rect.unit ![0] ![1] inb_S64_S1_0, fun _ => e 0⟩])) := by
  intro i hi
  simp only [View.read_writes_cons_cell, Matrix.cons_val_zero]
  generalize M.view.read (Elt F) (M.view.writes (Elt F) f []) i = z
  generalize (i 0).val = n at hi
  interval_cases n <;> rfl

/-- A store of a whole block leaves it, whatever was there. -/
theorem read_block (M : Memref sig .tc .vmem S16x256x256 .f32) (f : M.view.ty.Contents (Elt F)) (inb) (w : Vec F S16x256x256 .f32) :
    M.view.read (Elt F) (M.view.writes (Elt F) f [⟨Rect.unit (s := S16x256x256) ![0, 0, 0] ![16, 256, 256] inb, w⟩]) = w :=
  View.read_writes_full M.view f inb w []

/-- The block by the shortest evaluation, as the payloads spell it. -/
abbrev block2 (e : ℕ → F .f32) (x : Vec F S16x256x256 .f32) : Vec F S16x256x256 .f32 :=
  k0_pay2 (e 30) x (k0_pay88 (e 1) x) (k0_pay89 (e 2) x) (k0_pay90 (e 0) (e 1) (e 2) x) (k0_pay91 (e 1) (e 2) (e 7) (e 8) (e 9) x) (k0_pay92 (e 1) (e 2) (e 14) (e 15) (e 16) x) (k0_pay93 (e 1) (e 2) (e 21) (e 22) (e 23) x) (k0_pay94 (e 28)) (k0_pay95 (e 29))
/-- The block by the middle evaluation, as the payloads spell it. -/
abbrev block4 (e : ℕ → F .f32) (x : Vec F S16x256x256 .f32) : Vec F S16x256x256 .f32 :=
  k0_pay103 (e 7) (e 8) (e 9) (e 10) (e 11) (e 14) (e 15) (e 16) (e 17) (e 18) (cmpf CmpFPredicate.oge x (broadcast S16x256x256 (e 1))) (cmpf CmpFPredicate.oge x (broadcast S16x256x256 (e 2))) (cmpf CmpFPredicate.oge x (broadcast S16x256x256 (e 3))) (k0_pay99 (e 4) x) (k0_pay100 (e 0) (e 1) (e 2) (e 3) (e 4) x (cmpf CmpFPredicate.oge x (broadcast S16x256x256 (e 1))) (cmpf CmpFPredicate.oge x (broadcast S16x256x256 (e 2))) (cmpf CmpFPredicate.oge x (broadcast S16x256x256 (e 3))) (k0_pay99 (e 4) x)) (k0_pay102 (e 21) (e 22) (e 23) (e 24) (e 25) (cmpf CmpFPredicate.oge x (broadcast S16x256x256 (e 1))) (cmpf CmpFPredicate.oge x (broadcast S16x256x256 (e 2))) (cmpf CmpFPredicate.oge x (broadcast S16x256x256 (e 3))) (k0_pay99 (e 4) x) (k0_pay101 (e 28) (e 29) (e 30) (e 31) (e 32) (cmpf CmpFPredicate.oge x (broadcast S16x256x256 (e 1))) (cmpf CmpFPredicate.oge x (broadcast S16x256x256 (e 2))) (cmpf CmpFPredicate.oge x (broadcast S16x256x256 (e 3))) (k0_pay99 (e 4) x) (k0_pay100 (e 0) (e 1) (e 2) (e 3) (e 4) x (cmpf CmpFPredicate.oge x (broadcast S16x256x256 (e 1))) (cmpf CmpFPredicate.oge x (broadcast S16x256x256 (e 2))) (cmpf CmpFPredicate.oge x (broadcast S16x256x256 (e 3))) (k0_pay99 (e 4) x))))
/-- The block by the longest evaluation, as the payloads spell it. -/
abbrev block6 (e : ℕ → F .f32) (x : Vec F S16x256x256 .f32) : Vec F S16x256x256 .f32 :=
  k0_pay5 (e 19) (e 20) (e 34) x (k0_pay107 (e 4) x) (k0_pay108 (e 5) x) (k0_pay109 (e 6) x) (k0_pay110 (e 0) (e 1) (e 2) (e 3) (e 4) (e 5) (e 6) x) (k0_pay111 (e 1) (e 2) (e 3) (e 4) (e 5) (e 6) (e 7) (e 8) (e 9) (e 10) (e 11) (e 12) (e 13) x) (k0_pay112 (e 1) (e 2) (e 3) (e 14) (e 15) (e 16) (e 17) x) (k0_pay113 (e 18)) (k0_pay3 (e 21) (e 22) (e 23) (e 24) (e 25) (e 26) (e 27) (k0_pay104 (e 1) x) (k0_pay105 (e 2) x) (k0_pay106 (e 3) x) (k0_pay107 (e 4) x) (k0_pay108 (e 5) x) (k0_pay109 (e 6) x)) (k0_pay4 (e 28) (e 29) (e 30) (e 31) (e 32) (e 33) (k0_pay104 (e 1) x) (k0_pay105 (e 2) x) (k0_pay106 (e 3) x) (k0_pay107 (e 4) x) (k0_pay108 (e 5) x))

/-- What the block holds once the evaluation was chosen and made. -/
theorem outcome (M : Memref sig .tc .vmem S16x256x256 .f32) (f : M.view.ty.Contents (Elt F)) (e : ℕ → F .f32) (x : Vec F S16x256x256 .f32)
    (ht : Taken (e 35)) :
    M.view.read (Elt F)
      (if h : many (e 35) then
        M.view.writes (Elt F) (if h : some34 (e 35) then
            M.view.writes (Elt F) (if h : few (e 35) then M.view.writes (Elt F) f [⟨Rect.unit ![0, 0, 0] ![16, 256, 256] inb_S16x256x256_S16x256x256_0_0_0, block2 e x⟩] else f)
              [⟨Rect.unit ![0, 0, 0] ![16, 256, 256] inb_S16x256x256_S16x256x256_0_0_0, block4 e x⟩]
          else if h : few (e 35) then M.view.writes (Elt F) f [⟨Rect.unit ![0, 0, 0] ![16, 256, 256] inb_S16x256x256_S16x256x256_0_0_0, block2 e x⟩] else f)
          [⟨Rect.unit ![0, 0, 0] ![16, 256, 256] inb_S16x256x256_S16x256x256_0_0_0, block6 e x⟩]
      else if h : some34 (e 35) then
            M.view.writes (Elt F) (if h : few (e 35) then M.view.writes (Elt F) f [⟨Rect.unit ![0, 0, 0] ![16, 256, 256] inb_S16x256x256_S16x256x256_0_0_0, block2 e x⟩] else f)
              [⟨Rect.unit ![0, 0, 0] ![16, 256, 256] inb_S16x256x256_S16x256x256_0_0_0, block4 e x⟩]
          else if h : few (e 35) then M.view.writes (Elt F) f [⟨Rect.unit ![0, 0, 0] ![16, 256, 256] inb_S16x256x256_S16x256x256_0_0_0, block2 e x⟩] else f) = evalOut e x := by
  by_cases h3 : many (e 35)
  · rw [dif_pos h3, read_block]
    refine (arm6 e x _ _ _ _ _ _ rfl rfl rfl rfl rfl rfl).trans ?_
    unfold evalOut depth; rw [if_pos h3]
  rw [dif_neg h3]
  by_cases h2 : some34 (e 35)
  · rw [dif_pos h2, read_block]
    refine (arm4 e x _ _ _ _ _ _ rfl rfl rfl rfl rfl rfl).trans ?_
    unfold evalOut depth; rw [if_neg h3, if_pos h2]
  rw [dif_neg h2]
  by_cases h1 : few (e 35)
  · rw [dif_pos h1, read_block]
    refine (arm2 e x).trans ?_
    unfold evalOut depth; rw [if_neg h3, if_neg h2]
  exact absurd ht (by rintro (h | h | h); exacts [h1 h, h2 h, h3 h])

set_option maxHeartbeats 4000000 in
/-- At a later point: the table stays, and the block is what its words give. -/
theorem later_run (c : Dev nD) (i : grid0.Coords) (arg1 : Memref sig .tc .vmem S1x1 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x9 .f32) (harg6 : arg6.IsWhole) (arg7 : Memref sig .tc .vmem S1x9 .f32) (harg7 : arg7.IsWhole) (arg8 : Memref sig .tc .vmem S32x7 .f32) (harg8 : arg8.IsWhole) (arg9 : Memref sig .tc .vmem S1x7 .f32) (harg9 : arg9.IsWhole) (arg10 : Memref sig .tc .vmem S16x256x256 .f32) (harg10 : arg10.IsWhole) (arg11 : Memref sig .tc .vmem S16x256x256 .f32) (harg11 : arg11.IsWhole) (arg12 : Memref sig .tc .smem S64 .f32) (harg12 : arg12.IsWhole)
    (x0 : Vec F S1x1 .f32) (x1 : Vec F S1x32 .f32) (x2 : Vec F S1x32 .f32) (x3 : Vec F S32x32 .f32) (x4 : Vec F S1x32 .f32) (x5 : Vec F S32x9 .f32) (x6 : Vec F S1x9 .f32) (x7 : Vec F S32x7 .f32) (x8 : Vec F S1x7 .f32) (x9 : Vec F S16x256x256 .f32) (e : ℕ → F .f32) (hn : ¬ atStart i) (ht : Taken (e 35)) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d ∗ ⌜Tabled e d⌝))
        ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (evalOut e x9) ∗ (∃ d, owns (c : Thread nD τ) arg12 fullShare d ∗ ⌜Tabled e d⌝)) -∗ K ⟨⟩))
      ⊢ wp frame (wpE (defs₀ (F := F)) Variants.none c none) Set.univ
          (cc0_spline_fused i arg1 harg1 arg2 harg2 arg3 harg3 arg4 harg4 arg5 harg5 arg6 harg6 arg7 harg7 arg8 harg8 arg9 harg9 arg10 harg10 arg11 harg11 arg12 harg12) K := by
  simp only [cc0_spline_fused_eq_skeleton]; unfold cc0_spline_fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, ⟨%fs0, %hfs0, HS0⟩, %hds⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  subst hfs0
  sl_exec (disch := first | sl_exact hn)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro
    have hx : View.readAt (Elt F) arg10.view (Rect.unit (s := S16x256x256) ![0, 0, 0] S16x256x256.size inb_S16x256x256_S16x256x256_0_0_0).toLoadRect (harg10.unread x9) = x9 := by
      funext j
      rw [harg10.readAt_unread]
      exact congrArg x9 (funext fun a => Fin.ext (by fin_cases a <;> exact (Nat.zero_add _).trans (Nat.one_mul _)))
    sl_unfold_words
    simp (disch := decide) only [word_read arg12 fs0 e _ _ _ hds, hx]
    exact outcome arg11 f10 e x9 ht
  iexists _; isplitl; · iexists _; isplitr; swap; · iexact HS0
                        ipureintro; rfl
  ipureintro; exact hds

set_option maxHeartbeats 4000000 in
/-- At the first point: the table is built from the inputs, and the block is what its words give. -/
theorem start_run (c : Dev nD) (i : grid0.Coords) (arg1 : Memref sig .tc .vmem S1x1 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x9 .f32) (harg6 : arg6.IsWhole) (arg7 : Memref sig .tc .vmem S1x9 .f32) (harg7 : arg7.IsWhole) (arg8 : Memref sig .tc .vmem S32x7 .f32) (harg8 : arg8.IsWhole) (arg9 : Memref sig .tc .vmem S1x7 .f32) (harg9 : arg9.IsWhole) (arg10 : Memref sig .tc .vmem S16x256x256 .f32) (harg10 : arg10.IsWhole) (arg11 : Memref sig .tc .vmem S16x256x256 .f32) (harg11 : arg11.IsWhole) (arg12 : Memref sig .tc .smem S64 .f32) (harg12 : arg12.IsWhole)
    (x0 : Vec F S1x1 .f32) (x1 : Vec F S1x32 .f32) (x2 : Vec F S1x32 .f32) (x3 : Vec F S32x32 .f32) (x4 : Vec F S1x32 .f32) (x5 : Vec F S32x9 .f32) (x6 : Vec F S1x9 .f32) (x7 : Vec F S32x7 .f32) (x8 : Vec F S1x7 .f32) (x9 : Vec F S16x256x256 .f32) (hc : atStart i) (ht : Taken (words x0 x1 x2 x3 x4 x5 x6 x7 x8 35)) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d))
        ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (evalOut (words x0 x1 x2 x3 x4 x5 x6 x7 x8) x9) ∗ (∃ d, owns (c : Thread nD τ) arg12 fullShare d ∗ ⌜Tabled (words x0 x1 x2 x3 x4 x5 x6 x7 x8) d⌝)) -∗ K ⟨⟩))
      ⊢ wp frame (wpE (defs₀ (F := F)) Variants.none c none) Set.univ
          (cc0_spline_fused i arg1 harg1 arg2 harg2 arg3 harg3 arg4 harg4 arg5 harg5 arg6 harg6 arg7 harg7 arg8 harg8 arg9 harg9 arg10 harg10 arg11 harg11 arg12 harg12) K := by
  simp only [cc0_spline_fused_eq_skeleton]; unfold cc0_spline_fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro
    sl_unfold_words
    have hoff : ∀ a : Fin 2, (![0, 0] : Fin 2 → ℕ) a = 0 := by decide
    simp only [flat_read rfl arg1 harg1 x0 ![0, 0] hoff, flat_read rfl arg2 harg2 x1 ![0, 0] hoff, flat_read rfl arg3 harg3 x2 ![0, 0] hoff,
      flat_read rfl arg4 harg4 x3 ![0, 0] hoff, flat_read rfl arg5 harg5 x4 ![0, 0] hoff, flat_read rfl arg6 harg6 x5 ![0, 0] hoff,
      flat_read rfl arg7 harg7 x6 ![0, 0] hoff, flat_read rfl arg8 harg8 x7 ![0, 0] hoff, flat_read rfl arg9 harg9 x8 ![0, 0] hoff]
    generalize hv : iota Kind.tc S1x128 32 [1] iota_S1x128_d1_w32 = v
    generalize h41 : k0_pay6 x0 x1 x2 x3 x4 = v41
    generalize h53 : k0_pay7 x0 x1 x2 x3 x4 x5 x6 = v53
    generalize h92 : k0_pay9 v v41 (k0_pay8 x7) x8 = v92
    generalize h97 : k0_pay10 v v41 (k0_pay8 x7) x8 = v97
    have htab := table_eq x0 x1 x2 x3 x4 x5 x6 x7 x8 v hv.symm v41 h41.symm v53 h53.symm v92 v97 h92.symm h97.symm
    simp only [word0, word1, word2, word3, word4, word5, htab,
      word6, word7, word8, word9, word10, word11, word12, word13, word14, word15, word16, word17, word18, word19, word20,
      word21, word22, word23, word24, word25, word26, word27, word28, word29, word30, word31, word32, word33, word34, word35 _ _ rfl]
    clear htab
    unfold words at ht ⊢
    generalize table (knots x0 x1 x2 x3 x4 x7 x8) (coefs x0 x1 x2 x3 x4 x5 x6) = tt at ht ⊢
    have hT := tabled_writes arg12 fs0 (word tt)
    have hx : View.readAt (Elt F) arg10.view (Rect.unit (s := S16x256x256) ![0, 0, 0] S16x256x256.size inb_S16x256x256_S16x256x256_0_0_0).toLoadRect (harg10.unread x9) = x9 := by
      funext j
      rw [harg10.readAt_unread]
      exact congrArg x9 (funext fun a => Fin.ext (by fin_cases a <;> exact (Nat.zero_add _).trans (Nat.one_mul _)))
    simp (disch := decide) only [word_read arg12 _ (word tt) _ _ _ hT, hx]
    exact outcome arg11 f10 (word tt) x9 ht
  iexists _; isplitl; · iexists _; isplitr; swap; · iexact HS0
                        ipureintro; rfl
  ipureintro
  sl_unfold_words
  have hoff : ∀ a : Fin 2, (![0, 0] : Fin 2 → ℕ) a = 0 := by decide
  simp only [flat_read rfl arg1 harg1 x0 ![0, 0] hoff, flat_read rfl arg2 harg2 x1 ![0, 0] hoff, flat_read rfl arg3 harg3 x2 ![0, 0] hoff,
    flat_read rfl arg4 harg4 x3 ![0, 0] hoff, flat_read rfl arg5 harg5 x4 ![0, 0] hoff, flat_read rfl arg6 harg6 x5 ![0, 0] hoff,
    flat_read rfl arg7 harg7 x6 ![0, 0] hoff, flat_read rfl arg8 harg8 x7 ![0, 0] hoff, flat_read rfl arg9 harg9 x8 ![0, 0] hoff]
  generalize hv : iota Kind.tc S1x128 32 [1] iota_S1x128_d1_w32 = v
  generalize h41 : k0_pay6 x0 x1 x2 x3 x4 = v41
  generalize h53 : k0_pay7 x0 x1 x2 x3 x4 x5 x6 = v53
  generalize h92 : k0_pay9 v v41 (k0_pay8 x7) x8 = v92
  generalize h97 : k0_pay10 v v41 (k0_pay8 x7) x8 = v97
  have htab := table_eq x0 x1 x2 x3 x4 x5 x6 x7 x8 v hv.symm v41 h41.symm v53 h53.symm v92 v97 h92.symm h97.symm
  simp only [word0, word1, word2, word3, word4, word5, htab,
    word6, word7, word8, word9, word10, word11, word12, word13, word14, word15, word16, word17, word18, word19, word20,
    word21, word22, word23, word24, word25, word26, word27, word28, word29, word30, word31, word32, word33, word34, word35 _ _ rfl]
  clear htab
  unfold words
  generalize table (knots x0 x1 x2 x3 x4 x7 x8) (coefs x0 x1 x2 x3 x4 x5 x6) = tt
  exact tabled_writes arg12 fs0 (word tt)

end Cert.Proof.KernelIdealValueRun

end
-- ==== Proof.KernelIdealValue.lean ====
/- The launch of the kernel at known contents: the output array, element by element, from the arguments. -/
module

public import proofs.«01_k».proof.Proof.KernelIdealRun
public import proofs.«01_k».proof.Proof.KernelIdealFrame
public import proofs.«01_k».proof.Proof.KernelIdealValueRun
public import Idealize.ShloMosaic.Lib.Claim
public import Idealize.ShloMosaic.Lib.Pipeline.ValueKit

@[expose] public section

set_option maxRecDepth 16384

noncomputable section

namespace Cert.Proof.KernelIdealValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Proof.KernelIdealEval Cert.Proof.KernelIdealValueRun
open Cert.Proof.KernelIdealRun (atStart)
open Cert.Proof.KernelIdealFrame (invariant_eq body_row)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first point. -/
abbrev start : Fin cfg0.N := ⟨0, by decide⟩

/-- The words of the table, from the inputs' blocks. -/
def tableOf (c : Dev nD) : ℕ → F .f32 := words (iblk m c 0 start) (iblk m c 1 start) (iblk m c 2 start) (iblk m c 3 start) (iblk m c 4 start) (iblk m c 5 start) (iblk m c 6 start) (iblk m c 7 start) (iblk m c 8 start)

theorem same_0 (c : Dev nD) (t : Fin cfg0.N) : iblk m c 0 t = iblk m c 0 start := rfl
theorem same_1 (c : Dev nD) (t : Fin cfg0.N) : iblk m c 1 t = iblk m c 1 start := rfl
theorem same_2 (c : Dev nD) (t : Fin cfg0.N) : iblk m c 2 t = iblk m c 2 start := rfl
theorem same_3 (c : Dev nD) (t : Fin cfg0.N) : iblk m c 3 t = iblk m c 3 start := rfl
theorem same_4 (c : Dev nD) (t : Fin cfg0.N) : iblk m c 4 t = iblk m c 4 start := rfl
theorem same_5 (c : Dev nD) (t : Fin cfg0.N) : iblk m c 5 t = iblk m c 5 start := rfl
theorem same_6 (c : Dev nD) (t : Fin cfg0.N) : iblk m c 6 t = iblk m c 6 start := rfl
theorem same_7 (c : Dev nD) (t : Fin cfg0.N) : iblk m c 7 t = iblk m c 7 start := rfl
theorem same_8 (c : Dev nD) (t : Fin cfg0.N) : iblk m c 8 t = iblk m c 8 start := rfl

theorem atStart_iff : ∀ t : Fin cfg0.N, atStart (grid0.coords t) ↔ t.val = 0 :=
  (by decide +kernel : ∀ t : Fin grid0.N, atStart (grid0.coords t) ↔ t.val = 0)

/-- What the scratch memory holds before a point: anything at first, the table from then on. -/
def carried (c : Dev nD) (k : ℕ) : sProp 𝕄 :=
  iprop((∃ d, owns (c : Thread nD τ) (Memref.whole cc0_scratch0) fullShare d ∗ ⌜k ≠ 0 → Tabled (tableOf m c) d⌝) ∗ (∃ r, prngReg c r))

/-- The arrays as the region finds them; after every point each input buffer at its block and the output at the spline of its points. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => evalOut (tableOf m c) (iblk m c 9 t)
  Φ t := carried m c t.val
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem before_0 (c : Dev nD) (t : Fin cfg0.N) (d) : (data m 0 c).before 0 t d = iblk m c 0 t :=
  before0_0_of m (data m 0 c) (data_A m c 0) (after_0 m c) t d
theorem after_1 (c : Dev nD) (t : Fin cfg0.N) : (data m 0 c).after 1 t = iblk m c 1 t := by dsimp only [data]
theorem before_1 (c : Dev nD) (t : Fin cfg0.N) (d) : (data m 0 c).before 1 t d = iblk m c 1 t :=
  before0_1_of m (data m 0 c) (data_A m c 1) (after_1 m c) t d
theorem after_2 (c : Dev nD) (t : Fin cfg0.N) : (data m 0 c).after 2 t = iblk m c 2 t := by dsimp only [data]
theorem before_2 (c : Dev nD) (t : Fin cfg0.N) (d) : (data m 0 c).before 2 t d = iblk m c 2 t :=
  before0_2_of m (data m 0 c) (data_A m c 2) (after_2 m c) t d
theorem after_3 (c : Dev nD) (t : Fin cfg0.N) : (data m 0 c).after 3 t = iblk m c 3 t := by dsimp only [data]
theorem before_3 (c : Dev nD) (t : Fin cfg0.N) (d) : (data m 0 c).before 3 t d = iblk m c 3 t :=
  before0_3_of m (data m 0 c) (data_A m c 3) (after_3 m c) t d
theorem after_4 (c : Dev nD) (t : Fin cfg0.N) : (data m 0 c).after 4 t = iblk m c 4 t := by dsimp only [data]
theorem before_4 (c : Dev nD) (t : Fin cfg0.N) (d) : (data m 0 c).before 4 t d = iblk m c 4 t :=
  before0_4_of m (data m 0 c) (data_A m c 4) (after_4 m c) t d
theorem after_5 (c : Dev nD) (t : Fin cfg0.N) : (data m 0 c).after 5 t = iblk m c 5 t := by dsimp only [data]
theorem before_5 (c : Dev nD) (t : Fin cfg0.N) (d) : (data m 0 c).before 5 t d = iblk m c 5 t :=
  before0_5_of m (data m 0 c) (data_A m c 5) (after_5 m c) t d
theorem after_6 (c : Dev nD) (t : Fin cfg0.N) : (data m 0 c).after 6 t = iblk m c 6 t := by dsimp only [data]
theorem before_6 (c : Dev nD) (t : Fin cfg0.N) (d) : (data m 0 c).before 6 t d = iblk m c 6 t :=
  before0_6_of m (data m 0 c) (data_A m c 6) (after_6 m c) t d
theorem after_7 (c : Dev nD) (t : Fin cfg0.N) : (data m 0 c).after 7 t = iblk m c 7 t := by dsimp only [data]
theorem before_7 (c : Dev nD) (t : Fin cfg0.N) (d) : (data m 0 c).before 7 t d = iblk m c 7 t :=
  before0_7_of m (data m 0 c) (data_A m c 7) (after_7 m c) t d
theorem after_8 (c : Dev nD) (t : Fin cfg0.N) : (data m 0 c).after 8 t = iblk m c 8 t := by dsimp only [data]
theorem before_8 (c : Dev nD) (t : Fin cfg0.N) (d) : (data m 0 c).before 8 t d = iblk m c 8 t :=
  before0_8_of m (data m 0 c) (data_A m c 8) (after_8 m c) t d
theorem after_9 (c : Dev nD) (t : Fin cfg0.N) : (data m 0 c).after 9 t = iblk m c 9 t := by dsimp only [data]
theorem before_9 (c : Dev nD) (t : Fin cfg0.N) (d) : (data m 0 c).before 9 t d = iblk m c 9 t :=
  before0_9_of m (data m 0 c) (data_A m c 9) (after_9 m c) t d
theorem after_10 (c : Dev nD) (t : Fin cfg0.N) : (data m 0 c).after 10 t = evalOut (tableOf m c) (iblk m c 9 t) := by dsimp only [data]

set_option maxHeartbeats 2400000 in
theorem body_ok (hT : ∀ n : F .f32, Taken n) (c : Dev nD) (t : Fin cfg0.N) :
    iprop((data m 0 c).Φ t.castSucc ∗ (data m 0 c).owesAt () t.castSucc
      ∗ (∃ d, owns (c : Thread nD τ) (win0_0.stage (cfg0.slots t 0)) fullShare ((data m 0 c).before 0 t d))
      ∗ (∃ d, owns (c : Thread nD τ) (win0_1.stage (cfg0.slots t 1)) fullShare ((data m 0 c).before 1 t d))
      ∗ (∃ d, owns (c : Thread nD τ) (win0_2.stage (cfg0.slots t 2)) fullShare ((data m 0 c).before 2 t d))
      ∗ (∃ d, owns (c : Thread nD τ) (win0_3.stage (cfg0.slots t 3)) fullShare ((data m 0 c).before 3 t d))
      ∗ (∃ d, owns (c : Thread nD τ) (win0_4.stage (cfg0.slots t 4)) fullShare ((data m 0 c).before 4 t d))
      ∗ (∃ d, owns (c : Thread nD τ) (win0_5.stage (cfg0.slots t 5)) fullShare ((data m 0 c).before 5 t d))
      ∗ (∃ d, owns (c : Thread nD τ) (win0_6.stage (cfg0.slots t 6)) fullShare ((data m 0 c).before 6 t d))
      ∗ (∃ d, owns (c : Thread nD τ) (win0_7.stage (cfg0.slots t 7)) fullShare ((data m 0 c).before 7 t d))
      ∗ (∃ d, owns (c : Thread nD τ) (win0_8.stage (cfg0.slots t 8)) fullShare ((data m 0 c).before 8 t d))
      ∗ (∃ d, owns (c : Thread nD τ) (win0_9.stage (cfg0.slots t 9)) fullShare ((data m 0 c).before 9 t d))
      ∗ (∃ d, owns (c : Thread nD τ) (win0_10.stage (cfg0.slots t 10)) fullShare ((data m 0 c).before 10 t d)))
    ⊢ wp frame (wpE (defs₀ (F := F)) Variants.none c none) Set.univ (bodyAt0 t) (fun _ =>
      iprop((data m 0 c).Φ t.succ ∗ (data m 0 c).owesAt () t.succ
        ∗ owns (c : Thread nD τ) (win0_0.stage (cfg0.slots t 0)) fullShare ((data m 0 c).after 0 t)
        ∗ owns (c : Thread nD τ) (win0_1.stage (cfg0.slots t 1)) fullShare ((data m 0 c).after 1 t)
        ∗ owns (c : Thread nD τ) (win0_2.stage (cfg0.slots t 2)) fullShare ((data m 0 c).after 2 t)
        ∗ owns (c : Thread nD τ) (win0_3.stage (cfg0.slots t 3)) fullShare ((data m 0 c).after 3 t)
        ∗ owns (c : Thread nD τ) (win0_4.stage (cfg0.slots t 4)) fullShare ((data m 0 c).after 4 t)
        ∗ owns (c : Thread nD τ) (win0_5.stage (cfg0.slots t 5)) fullShare ((data m 0 c).after 5 t)
        ∗ owns (c : Thread nD τ) (win0_6.stage (cfg0.slots t 6)) fullShare ((data m 0 c).after 6 t)
        ∗ owns (c : Thread nD τ) (win0_7.stage (cfg0.slots t 7)) fullShare ((data m 0 c).after 7 t)
        ∗ owns (c : Thread nD τ) (win0_8.stage (cfg0.slots t 8)) fullShare ((data m 0 c).after 8 t)
        ∗ owns (c : Thread nD τ) (win0_9.stage (cfg0.slots t 9)) fullShare ((data m 0 c).after 9 t)
        ∗ owns (c : Thread nD τ) (win0_10.stage (cfg0.slots t 10)) fullShare ((data m 0 c).after 10 t))) := by
  unfold bodyAt0
  simp only [before_0, before_1, before_2, before_3, before_4, before_5, before_6, before_7, before_8, before_9]
  rw [show (data m 0 c).owesAt () t.succ = (data m 0 c).owesAt () t.castSucc from rfl,
    show (data m 0 c).Φ t.succ = carried m c (t.val + 1) from rfl, show (data m 0 c).Φ t.castSucc = carried m c t.val from rfl,
    after_0, after_1, after_2, after_3, after_4, after_5, after_6, after_7, after_8, after_9, after_10,
    same_0, same_1, same_2, same_3, same_4, same_5, same_6, same_7, same_8]
  unfold carried
  iintro ⟨⟨⟨%ds, HS, %hds⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h0 : t.val = 0
  · iapply (start_run c (grid0.coords t) _ _ _ _ _ _ _ _ _ _ _ _ _ _ _ _ _ _ _ _ _ _ _ _ (iblk m c 0 start) (iblk m c 1 start) (iblk m c 2 start) (iblk m c 3 start) (iblk m c 4 start) (iblk m c 5 start) (iblk m c 6 start) (iblk m c 7 start) (iblk m c 8 start) (iblk m c 9 t) ((atStart_iff t).2 h0) (hT _))
    isplitl [H0 H1 H2 H3 H4 H5 H6 H7 H8 H9 H10 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists ds; iexact HS
    iintro ⟨H0, H1, H2, H3, H4, H5, H6, H7, H8, H9, H10, %ds2, HS, %hds2⟩
    isplitl [HS Hg]
    · isplitl [HS]
      · iexists ds2; isplitl; · iexact HS
        ipureintro; intro _; exact hds2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iapply (later_run c (grid0.coords t) _ _ _ _ _ _ _ _ _ _ _ _ _ _ _ _ _ _ _ _ _ _ _ _ (iblk m c 0 start) (iblk m c 1 start) (iblk m c 2 start) (iblk m c 3 start) (iblk m c 4 start) (iblk m c 5 start) (iblk m c 6 start) (iblk m c 7 start) (iblk m c 8 start) (iblk m c 9 t) (tableOf m c) (fun h => h0 ((atStart_iff t).1 h)) (hT _))
    isplitl [H0 H1 H2 H3 H4 H5 H6 H7 H8 H9 H10 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists ds; isplitl; · iexact HS
      ipureintro; exact hds h0
    iintro ⟨H0, H1, H2, H3, H4, H5, H6, H7, H8, H9, H10, %ds2, HS, %hds2⟩
    isplitl [HS Hg]
    · isplitl [HS]
      · iexists ds2; isplitl; · iexact HS
        ipureintro; intro _; exact hds2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem obligation (hT : ∀ n : F .f32, Taken n) (c : Dev nD) :
    BodyObligation (data (F := F) m 0 c) (defs₀ (F := F)) Variants.none () Set.univ := fun t => by
  rw [bigSep_W0, bigSep_W0, body_row]
  exact triple_restated (body_ok m hT c t) rfl .rfl fun _ => .rfl

set_option backward.isDefEq.respectTransparency.types false in
/-- Every run ends with the arrays as the data say. -/
theorem run (hT : ∀ n : F .f32, Taken n) : θ_run defs (onTc (τ := τ) (main (F := F))) (s₀ m ρ) (fun r =>
    Pipeline.FramePost cfgs (data m) 0 (V m) r ∧ r.2.sem = fun _ => 0) :=
  Pipeline.θ_run_frame_track (Q' := _) cfgs (data m) (0 : Fin 1) launch0 defs₀ Variants.none m ρ main
    (hbody := fun c => (obligation m hT c).loose) (hshare := fun c => (data m 0 c).share_full fun _ => rfl)
    (howed := fun _ _ => rfl) (V := V m) (hmain := hmain m Variants.none) (hA := data_A m)
    (hin := fun c => by
      rw [show (data m 0 c).Φ 0 = carried m c 0 from rfl, show Pipeline.ΦA (cfgs 0).spec c = Pipeline.ΦA spec0 c from rfl, invariant_eq]
      unfold carried
      iintro ⟨⟨%d, H⟩, Hg⟩
      isplitl [H]
      · iexists d; isplitl; · iexact H
        ipureintro; intro h; exact absurd rfl h
      iexact Hg)
    (hout := fun c => by
      rw [show (data m 0 c).Φ (Fin.last cfg0.N) = carried m c cfg0.N from rfl, show Pipeline.ΦA (cfgs 0).spec c = Pipeline.ΦA spec0 c from rfl, invariant_eq]
      unfold carried
      iintro ⟨⟨%d, H, -⟩, Hg⟩
      isplitl [H]
      · iexists d; iexact H
      iexact Hg)

/-- The output array in the end. -/
theorem final (c : Dev nD) : (data m 0 c).arrAt 10 (cfgs 0).N
    = fun i => KernelIdealEval.piece (depth (tableOf m c 35)) (tableOf m c) (m ((c : Thread nD τ).loc main_arg0) i) := by
  refine (data m 0 c).arrAt_eq_of_covers 10 _ (by decide +kernel) fun t _ y => ?_
  blk_simp
  rw [after_10]
  unfold evalOut
  refine congrArg (KernelIdealEval.piece _ _) ?_
  show V m c main_arg0 ((win0_9.blk t).view.emb y) = m ((c : Thread nD τ).loc main_arg0) ((win0_10.blk t).view.emb y)
  rw [V_main_arg0]
  rfl

theorem run_out (hT : ∀ n : F .f32, Taken n) : θ_run defs (onTc (τ := τ) (main (F := F))) ⟨m, fun _ => 0, ρ⟩ (fun r => ∀ c : Dev nD,
      r.2.mem ((c.tc : Thread nD τ).loc main_v0)
        = fun i => KernelIdealEval.piece (depth (tableOf m c 35)) (tableOf m c) (m ((c : Thread nD τ).loc main_arg0) i)) :=
  (θ_run defs _ _).mono (fun _ h c => ((h.1 c).1 10).trans (final m c)) (run m ρ hT)

end Cert.Proof.KernelIdealValue

end
-- ==== Proof.KernelIdealBlocks.lean ====
/- What the small inputs' blocks hold at the first grid point: the arguments, entry by entry. -/
module

public import proofs.«01_k».proof.Proof.KernelIdealValue
public import Idealize.ShloMosaic.Lib.Pointwise
public import Idealize.ShloMosaic.Lib.Pipeline.ValueKit

@[expose] public section

set_option maxRecDepth 16384

noncomputable section

namespace Cert.Proof.KernelIdealBlocks

open Idealize.ShloMosaic Idealize.ShloMosaic.TcCoe
open Idealize.SL.Sem
open Cert.KernelIdeal Cert.KernelIdeal.Gen Cert.Proof.KernelIdealValue

variable (m : (ℓ : Loc nD τ sig) → Buf (Elt Ideal) ℓ) (c : Dev nD)

theorem block_0  : (iblk m c 0 start : Vec Ideal S1x1 .f32) (ix2 0 0) = m (c.tc.loc main_arg1) (ix1 0) := by
  blk_point [iblk, V, start] <;> first | exact Nat.zero_add _ | rfl
theorem block_1 (k : Fin 32) : (iblk m c 1 start : Vec Ideal S1x32 .f32) (ix2 0 k) = m (c.tc.loc main_arg2) (ix2 0 k) := by
  blk_point [iblk, V, start] <;> first | exact Nat.zero_add _ | rfl
theorem block_2 (k : Fin 32) : (iblk m c 2 start : Vec Ideal S1x32 .f32) (ix2 0 k) = m (c.tc.loc main_arg3) (ix1 k) := by
  blk_point [iblk, V, start] <;> first | exact Nat.zero_add _ | rfl
theorem block_3 (k l : Fin 32) : (iblk m c 3 start : Vec Ideal S32x32 .f32) (ix2 k l) = m (c.tc.loc main_arg4) (ix2 k l) := by
  blk_point [iblk, V, start] <;> first | exact Nat.zero_add _ | rfl
theorem block_4 (k : Fin 32) : (iblk m c 4 start : Vec Ideal S1x32 .f32) (ix2 0 k) = m (c.tc.loc main_arg5) (ix1 k) := by
  blk_point [iblk, V, start] <;> first | exact Nat.zero_add _ | rfl
theorem block_5 (k : Fin 32) (l : Fin 9) : (iblk m c 5 start : Vec Ideal S32x9 .f32) (ix2 k l) = m (c.tc.loc main_arg6) (ix2 k l) := by
  blk_point [iblk, V, start] <;> first | exact Nat.zero_add _ | rfl
theorem block_6 (k : Fin 9) : (iblk m c 6 start : Vec Ideal S1x9 .f32) (ix2 0 k) = m (c.tc.loc main_arg7) (ix1 k) := by
  blk_point [iblk, V, start] <;> first | exact Nat.zero_add _ | rfl
theorem block_7 (k : Fin 32) (l : Fin 7) : (iblk m c 7 start : Vec Ideal S32x7 .f32) (ix2 k l) = m (c.tc.loc main_arg8) (ix2 k l) := by
  blk_point [iblk, V, start] <;> first | exact Nat.zero_add _ | rfl
theorem block_8 (k : Fin 7) : (iblk m c 8 start : Vec Ideal S1x7 .f32) (ix2 0 k) = m (c.tc.loc main_arg9) (ix1 k) := by
  blk_point [iblk, V, start] <;> first | exact Nat.zero_add _ | rfl

end Cert.Proof.KernelIdealBlocks

end
-- ==== Proof.Spline.lean ====
/- The cubic spline over the reals: de Boor's recursion on one segment, the cubic that interpolates it, and the knots. -/
module

public import Mathlib.Analysis.SpecialFunctions.Exp
public import Mathlib.Analysis.Real.Sqrt
public import Mathlib.Algebra.BigOperators.Field

@[expose] public section

noncomputable section

namespace Cert.Proof.Spline

open Real

/-- How far `x` is from knot `i` to knot `j`. -/
def ratio (t : ℕ → ℝ) (i j : ℕ) (x : ℝ) : ℝ := (x - t i) / (t j - t i)

/-- De Boor's recursion for the cubic on the segment from knot `s + 3` to knot `s + 4`. -/
def deBoor (t c : ℕ → ℝ) (s : ℕ) (x : ℝ) : ℝ :=
  let p1 := (1 - ratio t (s + 1) (s + 4) x) * c s + ratio t (s + 1) (s + 4) x * c (s + 1)
  let p2 := (1 - ratio t (s + 2) (s + 5) x) * c (s + 1) + ratio t (s + 2) (s + 5) x * c (s + 2)
  let p3 := (1 - ratio t (s + 3) (s + 6) x) * c (s + 2) + ratio t (s + 3) (s + 6) x * c (s + 3)
  let q2 := (1 - ratio t (s + 2) (s + 4) x) * p1 + ratio t (s + 2) (s + 4) x * p2
  let q3 := (1 - ratio t (s + 3) (s + 5) x) * p2 + ratio t (s + 3) (s + 5) x * p3
  (1 - ratio t (s + 3) (s + 4) x) * q2 + ratio t (s + 3) (s + 4) x * q3

/-- The spline at a third of the segment. -/
def node (t c : ℕ → ℝ) (s r : ℕ) : ℝ := deBoor t c s (t (s + 3) + (t (s + 4) - t (s + 3)) * (r * (1 / 3)))

/-- The recursion with affine ratios is the cubic through its values at the thirds. -/
theorem cubic (A1 A2 A3 A4 A5 A6 B1 B2 B3 B4 B5 B6 d0 d1 d2 d3 : ℝ) (f : ℝ → ℝ)
    (hf : ∀ z, f z = (1 - (A6 + B6 * z)) * ((1 - (A4 + B4 * z)) * ((1 - (A1 + B1 * z)) * d0 + (A1 + B1 * z) * d1) + (A4 + B4 * z) * ((1 - (A2 + B2 * z)) * d1 + (A2 + B2 * z) * d2))
      + (A6 + B6 * z) * ((1 - (A5 + B5 * z)) * ((1 - (A2 + B2 * z)) * d1 + (A2 + B2 * z) * d2) + (A5 + B5 * z) * ((1 - (A3 + B3 * z)) * d2 + (A3 + B3 * z) * d3))) (z : ℝ) :
    f z = f 0 + (-5.5 * f 0 + 9 * f (1 / 3) - 4.5 * f (2 / 3) + f 1) * z
      + (9 * f 0 - 22.5 * f (1 / 3) + 18 * f (2 / 3) - 4.5 * f 1) * z ^ 2
      + (-4.5 * f 0 + 13.5 * f (1 / 3) - 13.5 * f (2 / 3) + 4.5 * f 1) * z ^ 3 := by
  simp only [hf]
  ring

/-- The spline anywhere in the segment, from its values at the thirds. -/
theorem deBoor_eq (t c : ℕ → ℝ) (s : ℕ) (z : ℝ) :
    deBoor t c s (t (s + 3) + (t (s + 4) - t (s + 3)) * z)
      = node t c s 0 + (-5.5 * node t c s 0 + 9 * node t c s 1 - 4.5 * node t c s 2 + node t c s 3) * z
      + (9 * node t c s 0 - 22.5 * node t c s 1 + 18 * node t c s 2 - 4.5 * node t c s 3) * z ^ 2
      + (-4.5 * node t c s 0 + 13.5 * node t c s 1 - 13.5 * node t c s 2 + 4.5 * node t c s 3) * z ^ 3 := by
  have h := cubic ((t (s + 3) - t (s + 1)) / (t (s + 4) - t (s + 1))) ((t (s + 3) - t (s + 2)) / (t (s + 5) - t (s + 2))) ((t (s + 3) - t (s + 3)) / (t (s + 6) - t (s + 3)))
    ((t (s + 3) - t (s + 2)) / (t (s + 4) - t (s + 2))) ((t (s + 3) - t (s + 3)) / (t (s + 5) - t (s + 3))) ((t (s + 3) - t (s + 3)) / (t (s + 4) - t (s + 3)))
    ((t (s + 4) - t (s + 3)) / (t (s + 4) - t (s + 1))) ((t (s + 4) - t (s + 3)) / (t (s + 5) - t (s + 2))) ((t (s + 4) - t (s + 3)) / (t (s + 6) - t (s + 3)))
    ((t (s + 4) - t (s + 3)) / (t (s + 4) - t (s + 2))) ((t (s + 4) - t (s + 3)) / (t (s + 5) - t (s + 3))) ((t (s + 4) - t (s + 3)) / (t (s + 4) - t (s + 3)))
    (c s) (c (s + 1)) (c (s + 2)) (c (s + 3)) (fun z => deBoor t c s (t (s + 3) + (t (s + 4) - t (s + 3)) * z))
    (fun z => by
      have hr : ∀ i j, ratio t i j (t (s + 3) + (t (s + 4) - t (s + 3)) * z)
          = (t (s + 3) - t i) / (t j - t i) + (t (s + 4) - t (s + 3)) / (t j - t i) * z := fun i j => by
        unfold ratio; ring
      simp only [deBoor, hr]) z
  have e0 : node t c s 0 = deBoor t c s (t (s + 3) + (t (s + 4) - t (s + 3)) * 0) := by unfold node; norm_num
  have e1 : node t c s 1 = deBoor t c s (t (s + 3) + (t (s + 4) - t (s + 3)) * (1 / 3)) := by unfold node; norm_num
  have e2 : node t c s 2 = deBoor t c s (t (s + 3) + (t (s + 4) - t (s + 3)) * (2 / 3)) := by unfold node; norm_num
  have e3 : node t c s 3 = deBoor t c s (t (s + 3) + (t (s + 4) - t (s + 3)) * 1) := by unfold node; norm_num
  rw [e0, e1, e2, e3]
  exact h

/-- The cubic by Horner's rule from the segment's start, in the stretched variable the kernel uses. -/
theorem horner (t c : ℕ → ℝ) (s : ℕ) (x i3 r3 : ℝ) (hr : r3 * i3 = 1) (hw : t (s + 4) - t (s + 3) ≠ 0) :
    let w := i3 / (t (s + 4) - t (s + 3))
    let u := x - t (s + 3) * r3
    (((-4.5 * node t c s 0 + 13.5 * node t c s 1 - 13.5 * node t c s 2 + 4.5 * node t c s 3) * (w * w * w) * u
      + (9 * node t c s 0 - 22.5 * node t c s 1 + 18 * node t c s 2 - 4.5 * node t c s 3) * (w * w)) * u
      + (-5.5 * node t c s 0 + 9 * node t c s 1 - 4.5 * node t c s 2 + node t c s 3) * w) * u + node t c s 0
      = deBoor t c s (x * i3) := by
  intro w u
  have hz : x * i3 = t (s + 3) + (t (s + 4) - t (s + 3)) * (w * u) := by
    have : (t (s + 4) - t (s + 3)) * (w * u) = i3 * u := by
      simp only [w]; field_simp
    rw [this]; simp only [u]
    linear_combination (t (s + 3)) * hr
  rw [hz, deBoor_eq]
  ring

/-- The softmax weights. -/
def share (k : ℕ → ℝ) (j : ℕ) : ℝ := Real.exp (k j) / ∑ i ∈ Finset.range 7, Real.exp (k i)

/-- The knots: zeros, the running sums of the softmax weights, ones. -/
def knot (k : ℕ → ℝ) (n : ℕ) : ℝ := if n < 4 then 0 else if n ≤ 10 then ∑ j ∈ Finset.range (n - 3), share k j else 1

/-- The coefficients: a zero, then the weights. -/
def coef (w : ℕ → ℝ) (n : ℕ) : ℝ := if n < 1 then 0 else w (n - 1)

theorem total_pos (k : ℕ → ℝ) : 0 < ∑ i ∈ Finset.range 7, Real.exp (k i) :=
  Finset.sum_pos (fun i _ => Real.exp_pos _) ⟨0, by simp⟩

theorem share_pos (k : ℕ → ℝ) (j : ℕ) : 0 < share k j := div_pos (Real.exp_pos _) (total_pos k)

theorem share_sum (k : ℕ → ℝ) : ∑ j ∈ Finset.range 7, share k j = 1 := by
  unfold share
  rw [← Finset.sum_div, div_self (total_pos k).ne']

/-- A softmax is the same after any shift. -/
theorem share_shift (k : ℕ → ℝ) (M : ℝ) (j : ℕ) :
    Real.exp (k j - M) / ∑ i ∈ Finset.range 7, Real.exp (k i - M) = share k j := by
  unfold share
  simp only [Real.exp_sub]
  rw [← Finset.sum_div, div_div_div_cancel_right₀ (Real.exp_pos M).ne']

theorem knot_lt (k : ℕ → ℝ) (n : ℕ) (h3 : 3 ≤ n) (h9 : n ≤ 9) : knot k n < knot k (n + 1) := by
  have p := share_pos k
  rcases Nat.eq_or_lt_of_le h3 with rfl | h
  · simp [knot, p 0]
  · unfold knot
    rw [if_neg (by omega), if_pos (by omega), if_neg (by omega), if_pos (by omega), show n + 1 - 3 = (n - 3) + 1 by omega, Finset.sum_range_succ]
    linarith [p (n - 3)]

theorem knot_zero (k : ℕ → ℝ) (n : ℕ) (h : n ≤ 3) : knot k n = 0 := if_pos (by omega)

theorem knot_one (k : ℕ → ℝ) (n : ℕ) (h : 10 ≤ n) : knot k n = 1 := by
  unfold knot
  rw [if_neg (by omega)]
  split_ifs with h2
  · obtain rfl : n = 10 := by omega
    exact share_sum k
  · rfl

theorem knot_le_succ (k : ℕ → ℝ) (n : ℕ) : knot k n ≤ knot k (n + 1) := by
  by_cases h3 : n + 1 ≤ 3
  · rw [knot_zero k n (by omega), knot_zero k (n + 1) h3]
  by_cases h9 : n ≤ 9
  · exact (knot_lt k n (by omega) h9).le
  · rw [knot_one k n (by omega), knot_one k (n + 1) (by omega)]

theorem knot_mono (k : ℕ → ℝ) : Monotone (knot k) := monotone_nat_of_le_succ (knot_le_succ k)

theorem knot_sub_pos (k : ℕ → ℝ) (s i j : ℕ) (hs : s ≤ 6) (hi : i ≤ s + 3) (hj : s + 4 ≤ j) : 0 < knot k j - knot k i := by
  have h1 := knot_mono k hi
  have h2 := knot_mono k hj
  have h3 := knot_lt k (s + 3) (by omega) (by omega)
  linarith

/-- The segment a number between zero and one falls in. -/
theorem exists_segment (k : ℕ → ℝ) (y : ℝ) (h0 : 0 ≤ y) (h1 : y < 1) :
    ∃ S ≤ 6, ∀ n, knot k n ≤ y ↔ n ≤ S + 3 := by
  have hex : ∃ n, y < knot k n := ⟨10, by rw [knot_one k 10 le_rfl]; exact h1⟩
  classical
  set N := Nat.find hex with hN
  have hN10 : N ≤ 10 := Nat.find_min' hex (by rw [knot_one k 10 le_rfl]; exact h1)
  have hN4 : 4 ≤ N := by
    by_contra h
    have := Nat.find_spec hex
    rw [← hN, knot_zero k N (by omega)] at this
    linarith
  refine ⟨N - 4, by omega, fun n => ⟨fun h => ?_, fun h => ?_⟩⟩
  · by_contra hn
    have := (Nat.find_spec hex).trans_le (knot_mono k (show N ≤ n by omega))
    linarith
  · exact not_lt.1 (Nat.find_min hex (show n < N by omega))

end Cert.Proof.Spline

end
-- ==== Proof.Reals.lean ====
/- Small facts about the extended reals that both programs' readings use. -/
module

public import Idealize.ShloMosaic.PureOps.Ideal
public import Idealize.ShloMosaic.Lib.Pointwise

@[expose] public section

noncomputable section

namespace Cert.Proof.Reals

open Idealize.ShloMosaic

/-- A small number's word, read as a signed number. -/
theorem toInt_small (r : ℕ) (h : r < 128) : (((BitVec.ofNat 32 r).toInt : ℤ) : ℝ) = (r : ℝ) := by
  have : (BitVec.ofNat 32 r).toInt = (r : ℤ) := by
    rw [BitVec.toInt_eq_toNat_of_lt (by rw [BitVec.toNat_ofNat, Nat.mod_eq_of_lt (by omega)]; omega), BitVec.toNat_ofNat, Nat.mod_eq_of_lt (by omega)]
  rw [this]; norm_num

/-- A small number's word as a float. -/
theorem sitofp_small (r : ℕ) (h : r < 128) : (FloatOps.sitofp .f32 (BitVec.ofNat 32 r) : Ideal .f32) = ((r : ℝ) : EReal) := by
  show (((BitVec.ofNat 32 r).toInt : ℝ) : EReal) = _
  rw [toInt_small r h]

/-- A finite sum of reals is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of terms known to be real is the real sum. -/
theorem sum_real {ι : Type*} (s : Finset ι) (g : ι → EReal) (f : ι → ℝ) (h : ∀ i ∈ s, g i = ((f i : ℝ) : EReal)) :
    ∑ i ∈ s, g i = ((∑ i ∈ s, f i : ℝ) : EReal) := (Finset.sum_congr rfl h).trans (coe_sum s f)

/-- The greatest of finitely many values, none of them plus infinity and one of them real, is real. -/
theorem fold_max_real {n : ℕ} (f : Fin n → EReal) (ht : ∀ i, f i ≠ ⊤) (i : Fin n) (hb : f i ≠ ⊥) :
    ∃ M : ℝ, Finset.fold max ⊥ f Finset.univ = ((M : ℝ) : EReal) := by
  refine ⟨(Finset.fold max ⊥ f Finset.univ).toReal, (EReal.coe_toReal ?_ ?_).symm⟩
  · refine ne_of_lt ((Finset.fold_max_lt (c := (⊤ : EReal))).mpr ⟨bot_lt_top, fun x _ => lt_of_le_of_ne le_top (ht x)⟩)
  · refine ne_of_gt ((Finset.lt_fold_max (c := (⊥ : EReal))).mpr (Or.inr ⟨i, Finset.mem_univ _, bot_lt_iff_ne_bot.mpr hb⟩))

/-- A quotient of reals whose divisor is not zero. -/
theorem div_real (p q : ℝ) (h : q ≠ 0) : Ideal.div ((p : ℝ) : EReal) ((q : ℝ) : EReal) = ((p / q : ℝ) : EReal) := by
  rw [Ideal.div_coe h, ← EReal.coe_mul, mul_one_div]

end Cert.Proof.Reals

end
-- ==== Proof.KernelIdealTable.lean ====
/- The kernel's table over the extended reals: each segment's start and the coefficients of its cubic, as reals. -/
module

public import proofs.«01_k».proof.Proof.KernelIdealEval
public import proofs.«01_k».proof.Proof.Spline
public import proofs.«01_k».proof.Proof.Consts
public import proofs.«01_k».proof.Proof.Reals
public import Idealize.ShloMosaic.Lib.Pointwise
public import Idealize.ShloMosaic.Lib.Claim

@[expose] public section

set_option maxRecDepth 16384

noncomputable section

namespace Cert.Proof.KernelIdealTable

open Idealize.ShloMosaic Idealize.ShloMosaic.TcCoe
open Idealize.SL.Sem
open Cert.KernelIdeal Cert.KernelIdeal.Gen Cert.Proof.KernelIdealEval Cert.Proof.Spline

theorem named_third : (Named.named κ "third" 0x3EAAAAAB#32 : Ideal .f32) = (((3 : ℝ)⁻¹ : ℝ) : EReal) :=
  IdealRules.named_const.ideal_named_scalar _ _ _ _ rfl
theorem named_sqrt3 : (Named.named κ "sqrt3" 0x3FDDB3D7#32 : Ideal .f32) = ((Real.sqrt 3 : ℝ) : EReal) :=
  IdealRules.named_const.ideal_named_scalar _ _ _ _ rfl
theorem named_inv : (Named.named κ "inv_sqrt3" 0x3F13CD3A#32 : Ideal .f32) = (((Real.sqrt 3)⁻¹ : ℝ) : EReal) :=
  IdealRules.named_const.ideal_named_scalar _ _ _ _ rfl
theorem named_mask : (Named.named κ "mask" 0xF149F2CA#32 : Ideal .f32) = ⊥ :=
  IdealRules.named_const.ideal_named_scalar _ _ _ _ rfl

/-- A lane's place, in canonical form. -/
theorem laneIdx_eq (n : ℕ) (h : n < 128) : laneIdx n = ix2 0 ⟨n, h⟩ := by
  funext a; apply Fin.ext; fin_cases a
  · rfl
  · exact Nat.mod_eq_of_lt h

section
variable (T C : FVec Ideal S1x128 .f32) (t c : ℕ → ℝ)
  (hT : ∀ (n : ℕ) (h : n < 128), n ≤ 12 → T (ix2 0 ⟨n, h⟩) = ((t n : ℝ) : EReal))
  (hC : ∀ (n : ℕ) (h : n < 128), n ≤ 9 → C (ix2 0 ⟨n, h⟩) = ((c n : ℝ) : EReal))
  (hd : ∀ s i j : ℕ, s ≤ 6 → i ≤ s + 3 → s + 4 ≤ j → 0 < t j - t i)

include hT hC hd in
/-- The spline at each interpolation point of each segment. -/
theorem values_lane (s : ℕ) (hs : s ≤ 6) (r : Fin 4) : values T C (ix2 r ⟨s, by omega⟩) = ((node t c s r : ℝ) : EReal) := by
  unfold values
  pointwise [k0_pay27, k0_pay28, k0_pay29, k0_pay30, k0_pay31, k0_pay32, k0_pay26, k0_pay25, points, width, T1, T2, T3, T4, T5, T6, C1, C2, C3]
  have e1 : (s + 128 - 127) % 128 = s + 1 := by omega
  have e2 : (s + 128 - 126) % 128 = s + 2 := by omega
  have e3 : (s + 128 - 125) % 128 = s + 3 := by omega
  have e4 : (s + 128 - 124) % 128 = s + 4 := by omega
  have e5 : (s + 128 - 123) % 128 = s + 5 := by omega
  have e6 : (s + 128 - 122) % 128 = s + 6 := by omega
  have hr : (FloatOps.sitofp .f32 (BitVec.ofNat 32 ((ix2 (n0 := 4) (n1 := 128) r ⟨s, by omega⟩ 0).val)) : Ideal .f32) = (((r.val : ℕ) : ℝ) : EReal) := Reals.sitofp_small r.val (by omega)
  simp only [e1, e2, e3, e4, e5, e6, hr, named_third,
    hT (s + 1) (by omega) (by omega), hT (s + 2) (by omega) (by omega), hT (s + 3) (by omega) (by omega), hT (s + 4) (by omega) (by omega),
    hT (s + 5) (by omega) (by omega), hT (s + 6) (by omega) (by omega), hC s (by omega) (by omega), hC (s + 1) (by omega) (by omega),
    hC (s + 2) (by omega) (by omega), hC (s + 3) (by omega) (by omega), ← EReal.coe_sub, ← EReal.coe_one, ← EReal.coe_mul, ← EReal.coe_add,
    Ideal.div_coe (hd s (s + 1) (s + 4) hs (by omega) (by omega)).ne', Ideal.div_coe (hd s (s + 2) (s + 5) hs (by omega) (by omega)).ne',
    Ideal.div_coe (hd s (s + 3) (s + 6) hs (by omega) (by omega)).ne', Ideal.div_coe (hd s (s + 2) (s + 4) hs (by omega) (by omega)).ne',
    Ideal.div_coe (hd s (s + 3) (s + 5) hs (by omega) (by omega)).ne', Ideal.div_coe (hd s (s + 3) (s + 4) hs (by omega) (by omega)).ne']
  refine congrArg Real.toEReal ?_
  simp only [node, deBoor, ratio, one_mul, mul_one_div, one_div, ← div_eq_mul_inv, sub_eq_add_neg, Reals.toInt_small r.val (by omega)]

/-- Word `s`: where segment `s` starts, in the argument's own scale. -/
theorem table_start (s : ℕ) (hs : s < 7) : table T C (laneIdx s) = T3 T (laneIdx s) * ((Real.sqrt 3 : ℝ) : EReal) := by
  unfold table
  interval_cases s <;>
  · rw [laneIdx_eq _ (by omega)]
    pointwise [k0_pay47, k0_pay44, k0_pay45, k0_pay46]
    rw [named_sqrt3]
    try rfl

/-- Word `7 + s`: segment `s`'s constant coefficient. -/
theorem table_coef0 (s : ℕ) (hs : s < 7) : table T C (laneIdx (7 + s)) = coef0 T C (laneIdx s) := by
  unfold table
  interval_cases s <;>
  · rw [laneIdx_eq _ (by omega), laneIdx_eq _ (by omega)]
    pointwise [k0_pay47, k0_pay44, k0_pay45, k0_pay46]
    try rfl
/-- Word `14 + s`: segment `s`'s linear coefficient. -/
theorem table_coef1 (s : ℕ) (hs : s < 7) : table T C (laneIdx (14 + s)) = coef1 T C (laneIdx s) := by
  unfold table
  interval_cases s <;>
  · rw [laneIdx_eq _ (by omega), laneIdx_eq _ (by omega)]
    pointwise [k0_pay47, k0_pay44, k0_pay45, k0_pay46]
    try rfl
/-- Word `21 + s`: segment `s`'s quadratic coefficient. -/
theorem table_coef2 (s : ℕ) (hs : s < 7) : table T C (laneIdx (21 + s)) = coef2 T C (laneIdx s) := by
  unfold table
  interval_cases s <;>
  · rw [laneIdx_eq _ (by omega), laneIdx_eq _ (by omega)]
    pointwise [k0_pay47, k0_pay44, k0_pay45, k0_pay46]
    try rfl
/-- Word `28 + s`: segment `s`'s cubic coefficient. -/
theorem table_coef3 (s : ℕ) (hs : s < 7) : table T C (laneIdx (28 + s)) = coef3 T C (laneIdx s) := by
  unfold table
  interval_cases s <;>
  · rw [laneIdx_eq _ (by omega), laneIdx_eq _ (by omega)]
    pointwise [k0_pay47, k0_pay44, k0_pay45, k0_pay46]
    try rfl

/-- How the coefficients stretch from a segment's unit interval to the argument's own scale. -/
def stretch (t : ℕ → ℝ) (s : ℕ) : ℝ := (Real.sqrt 3)⁻¹ / (t (s + 4) - t (s + 3))

include hT hd in
theorem stretch_eq (s : ℕ) (hs : s < 7) :
    Ideal.div (((Real.sqrt 3)⁻¹ : ℝ) : EReal) (((t (s + 4) : ℝ) : EReal) - ((t (s + 3) : ℝ) : EReal)) = ((stretch t s : ℝ) : EReal) := by
  rw [← EReal.coe_sub, Ideal.div_coe (hd s (s + 3) (s + 4) (by omega) (by omega) (by omega)).ne', ← EReal.coe_mul, stretch, mul_one_div]

include hT in
theorem start_word (s : ℕ) (hs : s < 7) : table T C (laneIdx s) = ((t (s + 3) * Real.sqrt 3 : ℝ) : EReal) := by
  rw [table_start T C s hs, laneIdx_eq _ (by omega)]
  pointwise [T3]
  have e3 : (s + 128 - 125) % 128 = s + 3 := by omega
  simp only [e3, hT (s + 3) (by omega) (by omega), EReal.coe_mul]

include hT hC hd in
theorem coef0_word (s : ℕ) (hs : s < 7) : table T C (laneIdx (7 + s)) = ((node t c s 0 : ℝ) : EReal) := by
  rw [table_coef0 T C s hs, laneIdx_eq _ (by omega)]
  pointwise [coef0, val0, val1, val2, val3]
  simp only [values_lane T C t c hT hC hd s (by omega)]
  simp

include hT hC hd in
theorem coef1_word (s : ℕ) (hs : s < 7) : table T C (laneIdx (14 + s))
    = (((-5.5 * node t c s 0 + 9 * node t c s 1 - 4.5 * node t c s 2 + node t c s 3) * stretch t s : ℝ) : EReal) := by
  rw [table_coef1 T C s hs, laneIdx_eq _ (by omega)]
  pointwise [coef1, coef1a, width, k0_pay40, k0_pay39, T3, T4, val0, val1, val2, val3]
  have e3 : (s + 128 - 125) % 128 = s + 3 := by omega
  have e4 : (s + 128 - 124) % 128 = s + 4 := by omega
  simp only [values_lane T C t c hT hC hd s (by omega), e3, e4, hT (s + 3) (by omega) (by omega), hT (s + 4) (by omega) (by omega),
    named_inv, stretch_eq T t hT hd s hs, Consts.neg5_5, Consts.nine, Consts.neg4_5, ← EReal.coe_mul, ← EReal.coe_add]
  refine congrArg Real.toEReal ?_
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  rw [v0, v1, v2, v3]
  ring

include hT hC hd in
theorem coef2_word (s : ℕ) (hs : s < 7) : table T C (laneIdx (21 + s))
    = (((9 * node t c s 0 - 22.5 * node t c s 1 + 18 * node t c s 2 - 4.5 * node t c s 3) * (stretch t s * stretch t s) : ℝ) : EReal) := by
  rw [table_coef2 T C s hs, laneIdx_eq _ (by omega)]
  pointwise [coef2, width, k0_pay42, k0_pay41, k0_pay39, T3, T4, val0, val1, val2, val3]
  have e3 : (s + 128 - 125) % 128 = s + 3 := by omega
  have e4 : (s + 128 - 124) % 128 = s + 4 := by omega
  simp only [values_lane T C t c hT hC hd s (by omega), e3, e4, hT (s + 3) (by omega) (by omega), hT (s + 4) (by omega) (by omega),
    named_inv, stretch_eq T t hT hd s hs, Consts.nine, Consts.neg22_5, Consts.eighteen, Consts.neg4_5, ← EReal.coe_mul, ← EReal.coe_add]
  refine congrArg Real.toEReal ?_
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  rw [v0, v1, v2, v3]
  ring

include hT hC hd in
theorem coef3_word (s : ℕ) (hs : s < 7) : table T C (laneIdx (28 + s))
    = (((-4.5 * node t c s 0 + 13.5 * node t c s 1 - 13.5 * node t c s 2 + 4.5 * node t c s 3) * (stretch t s * stretch t s * stretch t s) : ℝ) : EReal) := by
  rw [table_coef3 T C s hs, laneIdx_eq _ (by omega)]
  pointwise [coef3, width, k0_pay43, k0_pay41, k0_pay39, T3, T4, val0, val1, val2, val3]
  have e3 : (s + 128 - 125) % 128 = s + 3 := by omega
  have e4 : (s + 128 - 124) % 128 = s + 4 := by omega
  simp only [values_lane T C t c hT hC hd s (by omega), e3, e4, hT (s + 3) (by omega) (by omega), hT (s + 4) (by omega) (by omega),
    named_inv, stretch_eq T t hT hd s hs, Consts.neg4_5, Consts.pos13_5, Consts.neg13_5, Consts.pos4_5, ← EReal.coe_mul, ← EReal.coe_add]
  refine congrArg Real.toEReal ?_
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  rw [v0, v1, v2, v3]
  ring

end

end Cert.Proof.KernelIdealTable

end
-- ==== Proof.Network.lean ====
/- The small network, on the reals: two sine layers and two linear heads. -/
module

public import Mathlib.Analysis.SpecialFunctions.Trigonometric.Basic

@[expose] public section

noncomputable section

namespace Cert.Proof.Network

/-- The first sine layer, of one input. -/
def layer1 (a : ℝ) (w b : Fin 32 → ℝ) (k : Fin 32) : ℝ := Real.sin (a * w k + b k)

/-- A linear map with a bias. -/
def linear {n : ℕ} (h : Fin 32 → ℝ) (w : Fin 32 → Fin n → ℝ) (b : Fin n → ℝ) (j : Fin n) : ℝ := ∑ k, h k * w k j + b j

/-- The second sine layer. -/
def layer2 (h : Fin 32 → ℝ) (w : Fin 32 → Fin 32 → ℝ) (b : Fin 32 → ℝ) (l : Fin 32) : ℝ := Real.sin (linear h w b l)

/-- The list's entries by number, zero beyond its end. -/
def entries {n : ℕ} (f : Fin n → ℝ) (j : ℕ) : ℝ := if h : j < n then f ⟨j, h⟩ else 0

section Outputs

variable (a : ℝ) (w1 b1 : Fin 32 → ℝ) (w2 : Fin 32 → Fin 32 → ℝ) (b2 : Fin 32 → ℝ)

/-- The network's logits for the knots, by number. -/
def logits (wk : Fin 32 → Fin 7 → ℝ) (bk : Fin 7 → ℝ) : ℕ → ℝ := entries (linear (layer2 (layer1 a w1 b1) w2 b2) wk bk)

/-- The network's spline weights, by number. -/
def splineWeights (ww : Fin 32 → Fin 9 → ℝ) (bw : Fin 9 → ℝ) : ℕ → ℝ := entries (linear (layer2 (layer1 a w1 b1) w2 b2) ww bw)

end Outputs

end Cert.Proof.Network

end
-- ==== Proof.KernelIdealNetwork.lean ====
/- The kernel's knots and coefficients over the extended reals, lane by lane, as reals of the network's outputs. -/
module

public import proofs.«01_k».proof.Proof.KernelIdealTable
public import proofs.«01_k».proof.Proof.Network

@[expose] public section

set_option maxRecDepth 16384

noncomputable section

namespace Cert.Proof.KernelIdealNetwork

open Idealize.ShloMosaic Idealize.ShloMosaic.TcCoe
open Idealize.SL.Sem
open Cert.KernelIdeal Cert.KernelIdeal.Gen Cert.Proof.KernelIdealEval Cert.Proof.Spline Cert.Proof.Network

/-! ## The softmax's stages -/

section Stages

variable {F : FTy → Type} [FloatOps F] [Named F]

/-- The logits in lanes 0 to 6, the mask in the others. -/
def masked (v41 : FVec F S32x1 .f32) (v55 : FVec F S32x7 .bf16) (v61 : Vec F S1x7 .f32) : FVec F S1x128 .f32 :=
  have v56 : FVec F S32x7 .f32 := extf .f32 v55 bitsLt_bf16_f32
  have v57 : FVec F S32x7 .f32 := broadcastTo S32x7 v41 broadcasts_S32x1_S32x7
  have v58 : FVec F S32x7 .f32 := mulf v56 v57
  have v59 : FVec F S7 .f32 := multiReduction .add [0] S7 v58 0x00000000#32 reduces_S32x7_S7 (.inl rfl) rfl
  have v60 : FVec F S1x7 .f32 := shapeCast S1x7 v59 shapeCasts_S7_S1x7
  have v62 : FVec F S1x7 .f32 := shapeCast S1x7 v61 shapeCasts_S1x7_S1x7
  have v63 : FVec F S1x7 .f32 := addf v60 v62
  have cst_28 : F .f32 := Scalar.ofBits .f32 0x00000000#32
  have v64 : FVec F S1x121 .f32 := broadcast S1x121 cst_28
  have v65 : FVec F S1x128 .f32 := concatenate S1x128 1 [⟨S1x7, v63⟩, ⟨S1x121, v64⟩] concatenates_S1x7_S1x121_S1x128_d1
  have v66 : IVec S1x128 32 := broadcast S1x128 7#32
  have v67 : IVec S1x128 1 := cmpi .slt lanes v66
  have cst_29 : F .f32 := Named.named κ "mask" 0xF149F2CA#32
  have v68 : FVec F S1x128 .f32 := broadcast S1x128 cst_29
  have v69 : FVec F S1x128 .f32 := select v67 v65 v68
  v69

/-- The softmax of a row of lanes. -/
def prob (v69 : FVec F S1x128 .f32) : FVec F S1x128 .f32 :=
  have v70 : FVec F S1 .f32 := multiReduction .maximumf [1] S1 v69 0xFF800000#32 reduces_S1x128_S1 (.inl rfl) rfl
  have v71 : FVec F S1x1 .f32 := shapeCast S1x1 v70 shapeCasts_S1_S1x1
  have v72 : FVec F S1x128 .f32 := broadcastTo S1x128 v71 broadcasts_S1x1_S1x128
  have v73 : FVec F S1x128 .f32 := subf v69 v72
  have v74 : FVec F S1x128 .f32 := exp v73
  have v75 : FVec F S1 .f32 := multiReduction .add [1] S1 v74 0x00000000#32 reduces_S1x128_S1 (.inl rfl) rfl
  have v76 : FVec F S1x1 .f32 := shapeCast S1x1 v75 shapeCasts_S1_S1x1
  have cst_32 : F .f32 := Scalar.ofBits .f32 0x3F800000#32
  have v77 : FVec F S1x1 .f32 := broadcast S1x1 cst_32
  have v78 : FVec F S1x1 .f32 := divf v77 v76
  have v79 : FVec F S1x128 .f32 := broadcastTo S1x128 v78 broadcasts_S1x1_S1x128
  have v80 : FVec F S1x128 .f32 := mulf v74 v79
  v80

/-- Sums over windows of four lanes. -/
def windows (v80 : FVec F S1x128 .f32) : FVec F S1x128 .f32 :=
  have v81 : IVec S1x128 32 := broadcast S1x128 1#32
  have v82 : IVec S1x128 1 := cmpi .sge lanes v81
  have v83 : FVec F S1x128 .f32 := dynamicRotate 1 1#32 none v80 rotates_S1x128_d1
  have cst_34 : F .f32 := Scalar.ofBits .f32 0x00000000#32
  have v84 : FVec F S1x128 .f32 := broadcast S1x128 cst_34
  have v85 : FVec F S1x128 .f32 := select v82 v83 v84
  have v86 : FVec F S1x128 .f32 := addf v80 v85
  have v87 : IVec S1x128 32 := broadcast S1x128 2#32
  have v88 : IVec S1x128 1 := cmpi .sge lanes v87
  have v89 : FVec F S1x128 .f32 := dynamicRotate 1 2#32 none v86 rotates_S1x128_d1
  have cst_36 : F .f32 := Scalar.ofBits .f32 0x00000000#32
  have v90 : FVec F S1x128 .f32 := broadcast S1x128 cst_36
  have v91 : FVec F S1x128 .f32 := select v88 v89 v90
  have v92 : FVec F S1x128 .f32 := addf v86 v91
  v92

theorem sums4_stages (x0 : Vec F S1x1 .f32) (x1 : Vec F S1x32 .f32) (x2 : Vec F S1x32 .f32) (x3 : Vec F S32x32 .f32)
    (x4 : Vec F S1x32 .f32) (x7 : Vec F S32x7 .f32) (x8 : Vec F S1x7 .f32) :
    sums4 x0 x1 x2 x3 x4 x7 x8 = windows (prob (masked (KernelIdealEval.hidden x0 x1 x2 x3 x4) (k0_pay8 x7) x8)) := rfl

end Stages

/-! ## Lane by lane -/

theorem prob_lane (z : FVec Ideal S1x128 .f32) (k : ℕ → ℝ)
    (hz : ∀ (n : ℕ) (h : n < 128), z (ix2 0 ⟨n, h⟩) = if n < 7 then ((k n : ℝ) : EReal) else ⊥) (n : ℕ) (h : n < 7) :
    prob z (ix2 0 ⟨n, by omega⟩) = ((share k n : ℝ) : EReal) := by
  pointwise [prob]
  obtain ⟨M, hM⟩ := Reals.fold_max_real (fun x : Fin 128 => (z (ix2 0 x) : EReal)) (fun i => by
    rw [show i = ⟨i.val, i.isLt⟩ from rfl, hz]; split
    · exact EReal.coe_ne_top _
    · exact bot_ne_top) ⟨0, by norm_num⟩ (by rw [hz]; exact EReal.coe_ne_bot _)
  have hn : z (ix2 0 ⟨n, by omega⟩) = ((k n : ℝ) : EReal) := by rw [hz, if_pos h]
  have hs : (∑ x : Fin 128, Ideal.exp (z (ix2 0 x) - ((M : ℝ) : EReal)))
      = ((∑ i ∈ Finset.range 7, Real.exp (k i - M) : ℝ) : EReal) := by
    rw [Reals.sum_real Finset.univ _ (fun x : Fin 128 => if x.val < 7 then Real.exp (k x.val - M) else 0)]
    · refine congrArg Real.toEReal ?_
      rw [Fin.sum_univ_eq_sum_range (fun i => if i < 7 then Real.exp (k i - M) else 0) 128, ← Finset.sum_filter]
      refine Finset.sum_congr ?_ fun _ _ => rfl
      ext i
      simp only [Finset.mem_filter, Finset.mem_range]
      omega
    · intro x _
      rw [show x = ⟨x.val, x.isLt⟩ from rfl, hz]
      by_cases hx : x.val < 7
      · simp only [hx, if_true, ← EReal.coe_sub, Ideal.exp_coe]
      · simp only [hx, if_false, EReal.bot_sub]; rfl
  rw [Consts.negInf, hM, hs, hn, ← EReal.coe_sub, Ideal.exp_coe, ← EReal.coe_one,
    Ideal.div_coe (Finset.sum_pos (fun i _ => Real.exp_pos _) ⟨0, by simp⟩).ne', ← EReal.coe_mul, ← EReal.coe_mul, ← share_shift k M n, one_mul, mul_one_div]

theorem windows_lane (p : FVec Ideal S1x128 .f32) (q : ℕ → ℝ) (hp : ∀ (n : ℕ) (h : n < 128), n < 7 → p (ix2 0 ⟨n, h⟩) = ((q n : ℝ) : EReal))
    (n : ℕ) (h : n < 7) : windows p (ix2 0 ⟨n, by omega⟩) = ((∑ j ∈ Finset.range (n + 1), q j - ∑ j ∈ Finset.range (n - 3), q j : ℝ) : EReal) := by
  pointwise [windows, lanes]
  interval_cases n <;>
  · simp only [hp _ _ (by norm_num : (0 : ℕ) < 7), hp _ _ (by norm_num : (1 : ℕ) < 7), hp _ _ (by norm_num : (2 : ℕ) < 7), hp _ _ (by norm_num : (3 : ℕ) < 7),
      hp _ _ (by norm_num : (4 : ℕ) < 7), hp _ _ (by norm_num : (5 : ℕ) < 7), hp _ _ (by norm_num : (6 : ℕ) < 7), Nat.reduceAdd, Nat.reduceSub, Nat.reduceMod,
      Finset.sum_range_succ, Finset.sum_range_zero]
    simp [Scalar.select, IntOp.cmpi, ← EReal.coe_add, -EReal.coe_add, ← EReal.coe_sub, -EReal.coe_sub]
    try (first | ring1 | (simp only [← EReal.coe_add]; exact congrArg Real.toEReal (by ring)))

section Inputs

variable (x0 : Vec Ideal S1x1 .f32) (x1 : Vec Ideal S1x32 .f32) (x2 : Vec Ideal S1x32 .f32) (x3 : Vec Ideal S32x32 .f32)
  (x4 : Vec Ideal S1x32 .f32) (x5 : Vec Ideal S32x9 .f32) (x6 : Vec Ideal S1x9 .f32) (x7 : Vec Ideal S32x7 .f32) (x8 : Vec Ideal S1x7 .f32)
  (a : ℝ) (w1 b1 : Fin 32 → ℝ) (w2 : Fin 32 → Fin 32 → ℝ) (b2 : Fin 32 → ℝ) (ww : Fin 32 → Fin 9 → ℝ) (bw : Fin 9 → ℝ) (wk : Fin 32 → Fin 7 → ℝ) (bk : Fin 7 → ℝ)
  (h0 : x0 (ix2 0 0) = ((a : ℝ) : EReal)) (h1 : ∀ k, x1 (ix2 0 k) = ((w1 k : ℝ) : EReal)) (h2 : ∀ k, x2 (ix2 0 k) = ((b1 k : ℝ) : EReal))
  (h3 : ∀ k l, x3 (ix2 k l) = ((w2 k l : ℝ) : EReal)) (h4 : ∀ k, x4 (ix2 0 k) = ((b2 k : ℝ) : EReal))
  (h5 : ∀ k l, x5 (ix2 k l) = ((ww k l : ℝ) : EReal)) (h6 : ∀ k, x6 (ix2 0 k) = ((bw k : ℝ) : EReal))
  (h7 : ∀ k l, x7 (ix2 k l) = ((wk k l : ℝ) : EReal)) (h8 : ∀ k, x8 (ix2 0 k) = ((bk k : ℝ) : EReal))

include h0 h1 h2 h3 h4 in
theorem hidden_lane (l : Fin 32) : KernelIdealEval.hidden x0 x1 x2 x3 x4 (ix2 l 0) = ((layer2 (layer1 a w1 b1) w2 b2 l : ℝ) : EReal) := by
  unfold KernelIdealEval.hidden
  pointwise [k0_pay6]
  simp only [h0, h1, h2, h3, h4, ← EReal.coe_mul, ← EReal.coe_add, Ideal.sin_coe, Reals.coe_sum]
  refine congrArg Real.toEReal ?_
  exact congrArg Real.sin (congrArg (· + _) (Finset.sum_congr rfl fun _ _ => mul_comm _ _))

theorem slt7 (n : Fin 128) : IntOp.cmpi CmpIPredicate.slt (BitVec.ofNat 32 n.val) 7#32 = if n.val < 7 then 1#1 else 0#1 := by
  revert n; decide

include h0 h1 h2 h3 h4 h7 h8 in
theorem masked_lane (n : ℕ) (h : n < 128) : masked (KernelIdealEval.hidden x0 x1 x2 x3 x4) (k0_pay8 x7) x8 (ix2 0 ⟨n, h⟩)
    = if n < 7 then ((logits a w1 b1 w2 b2 wk bk n : ℝ) : EReal) else ⊥ := by
  have hh := hidden_lane x0 x1 x2 x3 x4 a w1 b1 w2 b2 h0 h1 h2 h3 h4
  generalize KernelIdealEval.hidden x0 x1 x2 x3 x4 = W at hh ⊢
  pointwise [masked, k0_pay8, lanes]
  rw [slt7 ⟨n, h⟩]
  by_cases hn : n < 7
  · simp only [hn, if_true, dif_pos, hh, h7, h8, ← EReal.coe_mul, Reals.coe_sum, ← EReal.coe_add, logits, entries, linear]
    refine congrArg Real.toEReal ?_
    exact congrArg (· + _) (Finset.sum_congr rfl fun _ _ => mul_comm _ _)
  · simp only [hn, if_false]
    exact KernelIdealTable.named_mask

include h0 h1 h2 h3 h4 h7 h8 in
theorem sums4_lane (n : ℕ) (h : n < 7) : sums4 x0 x1 x2 x3 x4 x7 x8 (ix2 0 ⟨n, by omega⟩)
    = ((∑ j ∈ Finset.range (n + 1), share (logits a w1 b1 w2 b2 wk bk) j - ∑ j ∈ Finset.range (n - 3), share (logits a w1 b1 w2 b2 wk bk) j : ℝ) : EReal) := by
  rw [sums4_stages]
  exact windows_lane _ _ (fun m _ hm => prob_lane _ _ (masked_lane x0 x1 x2 x3 x4 x7 x8 a w1 b1 w2 b2 wk bk h0 h1 h2 h3 h4 h7 h8) m hm) n h

include h0 h1 h2 h3 h4 h7 h8 in
/-- The kernel's knots. -/
theorem knots_lane (n : ℕ) (h : n < 128) (hn : n ≤ 12) : knots x0 x1 x2 x3 x4 x7 x8 (ix2 0 ⟨n, h⟩)
    = ((knot (logits a w1 b1 w2 b2 wk bk) n : ℝ) : EReal) := by
  have hs := sums4_lane x0 x1 x2 x3 x4 x7 x8 a w1 b1 w2 b2 wk bk h0 h1 h2 h3 h4 h7 h8
  have hr : sums4r x0 x1 x2 x3 x4 x7 x8 = select (cmpi .sge lanes (broadcast S1x128 4#32))
      (dynamicRotate 1 4#32 none (sums4 x0 x1 x2 x3 x4 x7 x8) rotates_S1x128_d1) (broadcast S1x128 (Scalar.ofBits .f32 0x00000000#32)) := rfl
  unfold knots
  rw [hr]
  generalize sums4 x0 x1 x2 x3 x4 x7 x8 = Z at hs ⊢
  generalize logits a w1 b1 w2 b2 wk bk = k at hs ⊢
  pointwise [k0_pay11, lanes]
  interval_cases n <;>
  · simp only [hs _ (by norm_num : (0 : ℕ) < 7), hs _ (by norm_num : (1 : ℕ) < 7), hs _ (by norm_num : (2 : ℕ) < 7), hs _ (by norm_num : (3 : ℕ) < 7),
      hs _ (by norm_num : (4 : ℕ) < 7), hs _ (by norm_num : (5 : ℕ) < 7), hs _ (by norm_num : (6 : ℕ) < 7), Nat.reduceAdd, Nat.reduceSub, Nat.reduceMod]
    simp [Scalar.select, IntOp.cmpi, ← EReal.coe_add, -EReal.coe_add, ← EReal.coe_sub, -EReal.coe_sub, knot, Finset.sum_range_succ, Finset.sum_range_zero]
    try (first | ring1 | (simp only [← EReal.coe_add]; exact congrArg Real.toEReal (by ring)))

include h0 h1 h2 h3 h4 h5 h6 in
theorem weights_lane (n : ℕ) (h : n < 9) : weights x0 x1 x2 x3 x4 x5 x6 (ix2 0 ⟨n, by omega⟩)
    = ((splineWeights a w1 b1 w2 b2 ww bw n : ℝ) : EReal) := by
  have hh := hidden_lane x0 x1 x2 x3 x4 a w1 b1 w2 b2 h0 h1 h2 h3 h4
  unfold KernelIdealEval.hidden at hh
  unfold weights
  pointwise [k0_pay7]
  rw [dif_pos h]
  simp only [hh, h5, h6, ← EReal.coe_mul, Reals.coe_sum, ← EReal.coe_add, splineWeights, entries, dif_pos h, linear]
  refine congrArg Real.toEReal ?_
  exact congrArg (· + _) (Finset.sum_congr rfl fun _ _ => mul_comm _ _)

include h0 h1 h2 h3 h4 h5 h6 in
/-- The kernel's coefficients. -/
theorem coefs_lane (n : ℕ) (h : n < 128) (hn : n ≤ 9) : coefs x0 x1 x2 x3 x4 x5 x6 (ix2 0 ⟨n, h⟩)
    = ((coef (splineWeights a w1 b1 w2 b2 ww bw) n : ℝ) : EReal) := by
  have hs := weights_lane x0 x1 x2 x3 x4 x5 x6 a w1 b1 w2 b2 ww bw h0 h1 h2 h3 h4 h5 h6
  unfold coefs
  generalize weights x0 x1 x2 x3 x4 x5 x6 = Z at hs ⊢
  generalize splineWeights a w1 b1 w2 b2 ww bw = w at hs ⊢
  pointwise [k0_pay12, lanes]
  interval_cases n <;>
  · simp only [hs _ (by norm_num : (0 : ℕ) < 9), hs _ (by norm_num : (1 : ℕ) < 9), hs _ (by norm_num : (2 : ℕ) < 9), hs _ (by norm_num : (3 : ℕ) < 9),
      hs _ (by norm_num : (4 : ℕ) < 9), hs _ (by norm_num : (5 : ℕ) < 9), hs _ (by norm_num : (6 : ℕ) < 9), hs _ (by norm_num : (7 : ℕ) < 9),
      hs _ (by norm_num : (8 : ℕ) < 9), Nat.reduceAdd, Nat.reduceSub, Nat.reduceMod]
    simp [Scalar.select, IntOp.cmpi, coef]

end Inputs

end Cert.Proof.KernelIdealNetwork

end
-- ==== Proof.KernelIdealPiece.lean ====
/- What the kernel stores for one element over the extended reals: the spline of the segment the element lies in. -/
module

public import proofs.«01_k».proof.Proof.KernelIdealTable
public import proofs.«01_k».proof.Proof.KernelIdealValueRun

@[expose] public section

set_option maxRecDepth 16384

noncomputable section

namespace Cert.Proof.KernelIdealPiece

open Idealize.ShloMosaic Idealize.ShloMosaic.TcCoe
open Idealize.SL.Sem
open Cert.KernelIdeal Cert.KernelIdeal.Gen Cert.Proof.KernelIdealEval Cert.Proof.Spline

/-! ## The three guards -/

theorem guard_bit (b : BitVec 1) : Scalar.cmpi .ne (Scalar.extui b) 0#32 = 1#1 ↔ b = 1#1 := by
  revert b; decide

theorem bit_iff (p : Prop) [Decidable p] : BitVec.ofBool (decide p) = 1#1 ↔ p := by
  by_cases h : p <;> simp [h]

theorem few_iff (n : Ideal .f32) : few n ↔ (n : EReal) ≤ ((2 : ℝ) : EReal) := by
  rw [← Consts.two]
  exact (guard_bit _).trans (bit_iff _)

theorem many_iff (n : Ideal .f32) : many n ↔ ((4 : ℝ) : EReal) < (n : EReal) := by
  rw [← Consts.four]
  exact (guard_bit _).trans (bit_iff _)

theorem and_bit (b c : BitVec 1) : Scalar.andi b c = 1#1 ↔ b = 1#1 ∧ c = 1#1 := by
  revert b c; decide

theorem some34_iff (n : Ideal .f32) : some34 n ↔ ((2 : ℝ) : EReal) < (n : EReal) ∧ (n : EReal) ≤ ((4 : ℝ) : EReal) := by
  rw [← Consts.two, ← Consts.four]
  exact (guard_bit _).trans ((and_bit _ _).trans (and_congr (bit_iff _) (bit_iff _)))

/-- One of the three guards always holds. -/
theorem taken (n : Ideal .f32) : KernelIdealValueRun.Taken n := by
  unfold KernelIdealValueRun.Taken
  rw [few_iff, some34_iff, many_iff]
  by_cases h2 : (n : EReal) ≤ ((2 : ℝ) : EReal)
  · exact Or.inl h2
  · by_cases h4 : (n : EReal) ≤ ((4 : ℝ) : EReal)
    · exact Or.inr (Or.inl ⟨not_le.mp h2, h4⟩)
    · exact Or.inr (Or.inr (not_le.mp h4))

/-- With `B` segments in use, the comparisons made reach as far as the `B`-th boundary. -/
theorem depth_bounds (B : ℕ) (hB : B ≤ 6) : B ≤ depth (F := Ideal) ((B : ℝ) : EReal) ∧ depth (F := Ideal) ((B : ℝ) : EReal) ≤ 6 := by
  unfold depth
  by_cases h4 : many (F := Ideal) ((B : ℝ) : EReal)
  · rw [if_pos h4]; omega
  · rw [if_neg h4]
    rw [many_iff, EReal.coe_lt_coe_iff, not_lt] at h4
    have h4' : B ≤ 4 := by exact_mod_cast h4
    by_cases h3 : some34 (F := Ideal) ((B : ℝ) : EReal)
    · rw [if_pos h3]; omega
    · rw [if_neg h3]
      rw [some34_iff, EReal.coe_lt_coe_iff, EReal.coe_le_coe_iff, not_and'] at h3
      have h2 := not_lt.mp (h3 h4)
      have : B ≤ 2 := by exact_mod_cast h2
      omega

/-! ## How many segments are in use -/

/-- How many of the boundaries 1 to `n` lie below one. -/
def below (σ : ℕ → ℝ) : ℕ → ℕ
  | 0 => 0
  | n + 1 => below σ n + if σ (n + 1) < 1 then 1 else 0

theorem below_succ (σ : ℕ → ℝ) (n : ℕ) : below σ (n + 1) = below σ n + if σ (n + 1) < 1 then 1 else 0 := rfl

theorem below_le (σ : ℕ → ℝ) (n : ℕ) : below σ n ≤ n := by
  induction n with
  | zero => exact le_rfl
  | succ n ih => unfold below; split <;> omega

theorem le_below (σ : ℕ → ℝ) (S n : ℕ) (hn : S ≤ n) (h : ∀ s, 1 ≤ s → s ≤ S → σ s < 1) : S ≤ below σ n := by
  induction n generalizing S with
  | zero => omega
  | succ n ih =>
    unfold below
    rcases Nat.lt_or_ge n S with hS | hS
    · have : S = n + 1 := by omega
      subst this
      rw [if_pos (h _ (by omega) le_rfl)]
      have := ih n le_rfl fun s h1 h2 => h s h1 (by omega)
      omega
    · have := ih S hS h
      omega

theorem fold_below (t : FVec Ideal S1x128 .f32) (σ : ℕ → ℝ) (n : ℕ) (hn : n ≤ 6) (ht : ∀ s, s < 7 → t (laneIdx s) = ((σ s : ℝ) : EReal)) :
    (List.range n).foldl (fun acc s => Scalar.addi acc (Scalar.select (Scalar.cmpf .olt (t (laneIdx (s + 1))) (Scalar.ofBits .f32 0x3F800000#32)) 1#32 0#32)) 0#32
      = BitVec.ofNat 32 (below σ n) := by
  induction n with
  | zero => rfl
  | succ n ih =>
    rw [List.range_succ, List.foldl_append, ih (by omega)]
    simp only [List.foldl_cons, List.foldl_nil]
    rw [ht (n + 1) (by omega)]
    have hc : Scalar.cmpf (F := Ideal) .olt ((σ (n + 1) : ℝ) : EReal) (Scalar.ofBits .f32 0x3F800000#32) = BitVec.ofBool (decide (σ (n + 1) < 1)) := by
      show BitVec.ofBool (decide (((σ (n + 1) : ℝ) : EReal) < Ideal.ofBits .f32 0x3F800000#32)) = _
      rw [Consts.one]
      simp only [EReal.coe_lt_coe_iff]
    rw [hc, below_succ]
    by_cases h : σ (n + 1) < 1
    · simp only [if_pos h, h, decide_true]
      rw [show Scalar.select (BitVec.ofBool true) (1#32) (0#32) = 1#32 from rfl, BitVec.ofNat_add]
      rfl
    · simp only [if_neg h, h, decide_false, Nat.add_zero]
      rw [show Scalar.select (BitVec.ofBool false) (1#32) (0#32) = 0#32 from rfl]
      exact BitVec.add_zero _

theorem inUse_eq (t : FVec Ideal S1x128 .f32) (σ : ℕ → ℝ) (ht : ∀ s, s < 7 → t (laneIdx s) = ((σ s : ℝ) : EReal)) :
    inUse t = ((((below σ 6 : ℕ) : ℝ) : ℝ) : EReal) := by
  unfold inUse
  rw [fold_below t σ 6 le_rfl ht]
  exact Reals.sitofp_small _ (by have := below_le σ 6; omega)

/-! ## The chain of selections -/

theorem chain_eq (e : ℕ → Ideal .f32) (σ : ℕ → ℝ) (X : ℝ) (S q : ℕ) (he : ∀ s, s < 7 → e s = ((σ s : ℝ) : EReal))
    (hS : ∀ s, s < 7 → (σ s ≤ X ↔ s ≤ S)) (k : ℕ) (hk : k ≤ 6) : chain k q e ((X : ℝ) : EReal) = e (7 * q + min S k) := by
  induction k with
  | zero => simp [chain]
  | succ k ih =>
    have ih := ih (by omega)
    unfold chain at ih ⊢
    rw [List.range_succ, List.foldl_append, ih]
    simp only [List.foldl_cons, List.foldl_nil]
    rw [he (k + 1) (by omega)]
    have hc : FloatOps.cmpf (F := Ideal) (φ := .f32) .oge ((X : ℝ) : EReal) ((σ (k + 1) : ℝ) : EReal) = BitVec.ofBool (decide (k + 1 ≤ S)) := by
      show BitVec.ofBool (decide (((σ (k + 1) : ℝ) : EReal) ≤ ((X : ℝ) : EReal))) = _
      simp only [EReal.coe_le_coe_iff, hS (k + 1) (by omega)]
    rw [hc]
    by_cases h : k + 1 ≤ S
    · simp only [h, decide_true]
      rw [Nat.min_eq_right h]
      rfl
    · simp only [h, decide_false]
      rw [show min S (k + 1) = min S k by omega]
      rfl

/-! ## One element -/

/-- The words of the table, segment by segment. -/
theorem piece_eq (e : ℕ → Ideal .f32) (t c : ℕ → ℝ) (X : ℝ) (S k : ℕ) (hS6 : S ≤ 6) (hSk : S ≤ k) (hk : k ≤ 6)
    (hd : ∀ s i j : ℕ, s ≤ 6 → i ≤ s + 3 → s + 4 ≤ j → 0 < t j - t i)
    (hS : ∀ s, s < 7 → (t (s + 3) * Real.sqrt 3 ≤ X ↔ s ≤ S))
    (e0 : ∀ s, s < 7 → e s = ((t (s + 3) * Real.sqrt 3 : ℝ) : EReal))
    (e1 : ∀ s, s < 7 → e (7 + s) = ((node t c s 0 : ℝ) : EReal))
    (e2 : ∀ s, s < 7 → e (14 + s) = (((-5.5 * node t c s 0 + 9 * node t c s 1 - 4.5 * node t c s 2 + node t c s 3) * KernelIdealTable.stretch t s : ℝ) : EReal))
    (e3 : ∀ s, s < 7 → e (21 + s) = (((9 * node t c s 0 - 22.5 * node t c s 1 + 18 * node t c s 2 - 4.5 * node t c s 3) * (KernelIdealTable.stretch t s * KernelIdealTable.stretch t s) : ℝ) : EReal))
    (e4 : ∀ s, s < 7 → e (28 + s) = (((-4.5 * node t c s 0 + 13.5 * node t c s 1 - 13.5 * node t c s 2 + 4.5 * node t c s 3) * (KernelIdealTable.stretch t s * KernelIdealTable.stretch t s * KernelIdealTable.stretch t s) : ℝ) : EReal)) :
    KernelIdealEval.piece k e ((X : ℝ) : EReal) = ((deBoor t c S (X * (Real.sqrt 3)⁻¹) : ℝ) : EReal) := by
  have hc := fun q => chain_eq e (fun s => t (s + 3) * Real.sqrt 3) X S q e0 hS k hk
  have hm : min S k = S := Nat.min_eq_left hSk
  unfold KernelIdealEval.piece
  rw [hc 0, hc 1, hc 2, hc 3, hc 4, hm, show 7 * 0 + S = S by omega, show 7 * 1 + S = 7 + S by omega, show 7 * 2 + S = 14 + S by omega,
    show 7 * 3 + S = 21 + S by omega, show 7 * 4 + S = 28 + S by omega, e0 S (by omega), e1 S (by omega), e2 S (by omega), e3 S (by omega), e4 S (by omega)]
  have h3 : Real.sqrt 3 * (Real.sqrt 3)⁻¹ = 1 := mul_inv_cancel₀ (by positivity)
  have hh := horner t c S X (Real.sqrt 3)⁻¹ (Real.sqrt 3) h3 (hd S (S + 3) (S + 4) hS6 le_rfl le_rfl).ne'
  simp only at hh
  rw [← hh]
  show ((_ * (_ - _) + _) * (_ - _) + _) * (_ - _) + _ = _
  simp only [← EReal.coe_sub, ← EReal.coe_mul, ← EReal.coe_add]
  rfl

end Cert.Proof.KernelIdealPiece

end
-- ==== Proof.KernelIdealResult.lean ====
/- The kernel's result over the extended reals, for finite network inputs and a position in [0, 1). -/
module

public import proofs.«01_k».proof.Proof.KernelIdealBlocks
public import proofs.«01_k».proof.Proof.KernelIdealNetwork
public import proofs.«01_k».proof.Proof.KernelIdealPiece

@[expose] public section

set_option maxRecDepth 16384

noncomputable section

namespace Cert.Proof.KernelIdealResult

open Idealize.ShloMosaic Idealize.ShloMosaic.TcCoe
open Idealize.SL.Sem
open Cert.KernelIdeal Cert.KernelIdeal.Gen Cert.Proof.KernelIdealEval Cert.Proof.KernelIdealValue Cert.Proof.KernelIdealPiece
open Cert.Proof.Spline Cert.Proof.Network

/-- What is evaluated at one element, when the table is built of these knots and coefficients. -/
theorem piece_table (T C : FVec Ideal S1x128 .f32) (κ ω : ℕ → ℝ)
    (hT : ∀ (n : ℕ) (h : n < 128), n ≤ 12 → T (ix2 0 ⟨n, h⟩) = ((knot κ n : ℝ) : EReal))
    (hC : ∀ (n : ℕ) (h : n < 128), n ≤ 9 → C (ix2 0 ⟨n, h⟩) = ((coef ω n : ℝ) : EReal))
    (X : ℝ) (hX : X < 1) (S : ℕ) (hS6 : S ≤ 6) (hS : ∀ n, knot κ n ≤ X * (Real.sqrt 3)⁻¹ ↔ n ≤ S + 3) :
    KernelIdealEval.piece (depth (word (table T C) 35)) (word (table T C)) ((X : ℝ) : EReal)
      = ((deBoor (knot κ) (coef ω) S (X * (Real.sqrt 3)⁻¹) : ℝ) : EReal) := by
  have h3 : (0 : ℝ) < Real.sqrt 3 := by positivity
  have hd : ∀ s i j : ℕ, s ≤ 6 → i ≤ s + 3 → s + 4 ≤ j → 0 < knot κ j - knot κ i := fun s i j hs hi hj => knot_sub_pos κ s i j hs hi hj
  have hS' : ∀ s, s < 7 → (knot κ (s + 3) * Real.sqrt 3 ≤ X ↔ s ≤ S) := by
    intro s _
    rw [← le_div_iff₀ h3, div_eq_mul_inv, hS]
    omega
  have hw : ∀ n, n ≠ 35 → word (table T C) n = table T C (laneIdx n) := fun n hn => if_neg hn
  have hn : word (table T C) 35 = ((((below (fun s => knot κ (s + 3) * Real.sqrt 3) 6 : ℕ) : ℝ) : ℝ) : EReal) :=
    (if_pos rfl).trans (inUse_eq (table T C) (fun s => knot κ (s + 3) * Real.sqrt 3) fun s hs =>
      KernelIdealTable.start_word T C (knot κ) hT s hs)
  obtain ⟨hb1, hb2⟩ := depth_bounds _ (below_le (fun s => knot κ (s + 3) * Real.sqrt 3) 6)
  have hSB : S ≤ below (fun s => knot κ (s + 3) * Real.sqrt 3) 6 :=
    le_below _ S 6 hS6 fun s _ hs => ((hS' s (by omega)).2 hs).trans_lt hX
  rw [hn]
  refine piece_eq (word (table T C)) (knot κ) (coef ω) X S _ hS6 (hSB.trans hb1) hb2 hd hS' ?_ ?_ ?_ ?_ ?_
  · intro s hs
    rw [hw s (by omega)]
    exact KernelIdealTable.start_word T C (knot κ) hT s hs
  · intro s hs
    rw [hw _ (by omega)]
    exact KernelIdealTable.coef0_word T C (knot κ) (coef ω) hT hC hd s hs
  · intro s hs
    rw [hw _ (by omega)]
    exact KernelIdealTable.coef1_word T C (knot κ) (coef ω) hT hC hd s hs
  · intro s hs
    rw [hw _ (by omega)]
    exact KernelIdealTable.coef2_word T C (knot κ) (coef ω) hT hC hd s hs
  · intro s hs
    rw [hw _ (by omega)]
    exact KernelIdealTable.coef3_word T C (knot κ) (coef ω) hT hC hd s hs

/-- The kernel's value at one element, from its arguments. -/
theorem result_entry (m : (ℓ : Loc nD τ sig) → Buf (Elt Ideal) ℓ) (c : Dev nD)
    (a : ℝ) (w1 b1 : Fin 32 → ℝ) (w2 : Fin 32 → Fin 32 → ℝ) (b2 : Fin 32 → ℝ) (ww : Fin 32 → Fin 9 → ℝ) (bw : Fin 9 → ℝ)
    (wk : Fin 32 → Fin 7 → ℝ) (bk : Fin 7 → ℝ)
    (h1 : m (c.tc.loc main_arg1) (ix1 0) = ((a : ℝ) : EReal)) (h2 : ∀ k, m (c.tc.loc main_arg2) (ix2 0 k) = ((w1 k : ℝ) : EReal))
    (h3 : ∀ k, m (c.tc.loc main_arg3) (ix1 k) = ((b1 k : ℝ) : EReal)) (h4 : ∀ k l, m (c.tc.loc main_arg4) (ix2 k l) = ((w2 k l : ℝ) : EReal))
    (h5 : ∀ k, m (c.tc.loc main_arg5) (ix1 k) = ((b2 k : ℝ) : EReal)) (h6 : ∀ k l, m (c.tc.loc main_arg6) (ix2 k l) = ((ww k l : ℝ) : EReal))
    (h7 : ∀ k, m (c.tc.loc main_arg7) (ix1 k) = ((bw k : ℝ) : EReal)) (h8 : ∀ k l, m (c.tc.loc main_arg8) (ix2 k l) = ((wk k l : ℝ) : EReal))
    (h9 : ∀ k, m (c.tc.loc main_arg9) (ix1 k) = ((bk k : ℝ) : EReal))
    (X : ℝ) (hX : X < 1) (S : ℕ) (hS6 : S ≤ 6) (hS : ∀ n, knot (logits a w1 b1 w2 b2 wk bk) n ≤ X * (Real.sqrt 3)⁻¹ ↔ n ≤ S + 3) :
    KernelIdealEval.piece (depth (tableOf m c 35)) (tableOf m c) ((X : ℝ) : EReal)
      = ((deBoor (knot (logits a w1 b1 w2 b2 wk bk)) (coef (splineWeights a w1 b1 w2 b2 ww bw)) S (X * (Real.sqrt 3)⁻¹) : ℝ) : EReal) := by
  have k0 := (KernelIdealBlocks.block_0 m c).trans h1
  have k1 := fun k => (KernelIdealBlocks.block_1 m c k).trans (h2 k)
  have k2 := fun k => (KernelIdealBlocks.block_2 m c k).trans (h3 k)
  have k3 := fun k l => (KernelIdealBlocks.block_3 m c k l).trans (h4 k l)
  have k4 := fun k => (KernelIdealBlocks.block_4 m c k).trans (h5 k)
  have k5 := fun k l => (KernelIdealBlocks.block_5 m c k l).trans (h6 k l)
  have k6 := fun k => (KernelIdealBlocks.block_6 m c k).trans (h7 k)
  have k7 := fun k l => (KernelIdealBlocks.block_7 m c k l).trans (h8 k l)
  have k8 := fun k => (KernelIdealBlocks.block_8 m c k).trans (h9 k)
  unfold tableOf KernelIdealValueRun.words
  exact piece_table _ _ _ _
    (KernelIdealNetwork.knots_lane _ _ _ _ _ _ _ a w1 b1 w2 b2 wk bk k0 k1 k2 k3 k4 k7 k8)
    (KernelIdealNetwork.coefs_lane _ _ _ _ _ _ _ a w1 b1 w2 b2 ww bw k0 k1 k2 k3 k4 k5 k6) X hX S hS6 hS

end Cert.Proof.KernelIdealResult

end
-- ==== Proof.ReferenceNetwork.lean ====
/- The reference's knots and coefficients over the extended reals, entry by entry, as reals of the network's outputs. -/
module

public import proofs.«01_k».proof.Proof.Gen.ReferenceIdeal.Read
public import proofs.«01_k».proof.Proof.Consts
public import proofs.«01_k».proof.Proof.Reals
public import proofs.«01_k».proof.Proof.Network
public import proofs.«01_k».proof.Proof.Spline
public import Idealize.ShloMosaic.Lib.Routing.Ops
public import Idealize.ShloMosaic.Lib.Pointwise

@[expose] public section

set_option maxRecDepth 16384

noncomputable section

namespace Cert.Proof.ReferenceNetwork

open Idealize.ShloMosaic Idealize.ShloMosaic.TcCoe
open Idealize.SL.Sem
open Cert.ReferenceIdeal Cert.ReferenceIdeal.Gen Cert.ReferenceIdeal.Read Cert.Proof.Spline Cert.Proof.Network

/-- A sum taken from the left, from zero, is the sum. -/
theorem foldl_sum {n : ℕ} (g : Fin n → EReal) : (List.finRange n).foldl (fun r i => r + g i) 0 = ∑ i, g i := by
  rw [Fin.sum_univ_def, List.sum_eq_foldl, List.foldl_map]

/-- The host's running sum of seven entries: entry `n` is the sum of the entries up to `n`. -/
theorem running_sum (x : FVec Ideal S7 .f32) (v : FVec Ideal S_ .f32) (hv : ∀ i, v i = (0 : EReal)) (q : ℕ → ℝ)
    (hx : ∀ (n : ℕ) (h : n < 7), x (ix1 ⟨n, h⟩) = ((q n : ℝ) : EReal)) (n : ℕ) (h : n < 7) :
    Host.reduceWindowAdd ![7] ![1] ![6] ![0] x v reduceWindows_S7_S7_w7s1p6_0 h_S_ (ix1 ⟨n, h⟩)
      = ((∑ j ∈ Finset.range (n + 1), q j : ℝ) : EReal) := by
  have step : Host.reduceWindowAdd ![7] ![1] ![6] ![0] x v reduceWindows_S7_S7_w7s1p6_0 h_S_ (ix1 ⟨n, h⟩)
      = (List.finRange (⟨1, ![7]⟩ : Shape).numel).foldl (fun (r : EReal) i => r + (if 6 ≤ n + i.val then (((if n + i.val - 6 < 7 then q (n + i.val - 6) else 0 : ℝ)) : EReal) else 0)) 0 := by
    unfold Host.reduceWindowAdd
    rw [Ideal.hostReduceWindowAdd_def, hv]
    unfold Ideal.hostReduceWindowAdd Host.reduceWindow
    refine List.foldl_ext _ _ _ fun r i _ => ?_
    have hw : ((⟨1, ![7]⟩ : Shape).rowMajor.symm i 0).val = i.val := by
      rw [show (⟨1, ![7]⟩ : Shape).rowMajor.symm i = _ from Routing.symm1 i]; rfl
    refine congrArg (r + ·) ?_
    dsimp only
    split
    · next hin =>
      have h0 := hin 0
      change 6 ≤ n * 1 + ((⟨1, ![7]⟩ : Shape).rowMajor.symm i 0).val ∧ n * 1 + ((⟨1, ![7]⟩ : Shape).rowMajor.symm i 0).val - 6 < 7 at h0
      rw [hw] at h0
      rw [if_pos (by omega), if_pos (by omega)]
      refine (congrArg x (funext fun a => Fin.ext ?_)).trans (hx (n + i.val - 6) (by omega))
      match a with
      | ⟨0, _⟩ =>
        show n * 1 + ((⟨1, ![7]⟩ : Shape).rowMajor.symm i 0).val - 6 = n + i.val - 6
        rw [hw, Nat.mul_one]
    · next hin =>
      have hi : i.val < 7 := (i.cast (Routing.numel1 7)).isLt
      rw [if_neg fun hle => hin fun a => by
        match a with
        | ⟨0, _⟩ =>
          show 6 ≤ n * 1 + ((⟨1, ![7]⟩ : Shape).rowMajor.symm i 0).val ∧ n * 1 + ((⟨1, ![7]⟩ : Shape).rowMajor.symm i 0).val - 6 < 7
          rw [hw]
          omega]
  rw [step, foldl_sum, Fin.sum_univ_eq_sum_range (fun i => if 6 ≤ n + i then (((if n + i - 6 < 7 then q (n + i - 6) else 0 : ℝ)) : EReal) else 0),
    show (⟨1, ![7]⟩ : Shape).numel = 7 from Routing.numel1 7]
  interval_cases n <;> simp [Finset.sum_range_succ]

variable (x1 : Vec Ideal S1 .f32) (x2 : Vec Ideal S1x32 .f32) (x3 : Vec Ideal S32 .f32) (x4 : Vec Ideal S32x32 .f32)
  (x5 : Vec Ideal S32 .f32) (x6 : Vec Ideal S32x9 .f32) (x7 : Vec Ideal S9 .f32) (x8 : Vec Ideal S32x7 .f32) (x9 : Vec Ideal S7 .f32)
  (a : ℝ) (w1 b1 : Fin 32 → ℝ) (w2 : Fin 32 → Fin 32 → ℝ) (b2 : Fin 32 → ℝ) (ww : Fin 32 → Fin 9 → ℝ) (bw : Fin 9 → ℝ) (wk : Fin 32 → Fin 7 → ℝ) (bk : Fin 7 → ℝ)
  (h1 : x1 (ix1 0) = ((a : ℝ) : EReal)) (h2 : ∀ k, x2 (ix2 0 k) = ((w1 k : ℝ) : EReal)) (h3 : ∀ k, x3 (ix1 k) = ((b1 k : ℝ) : EReal))
  (h4 : ∀ k l, x4 (ix2 k l) = ((w2 k l : ℝ) : EReal)) (h5 : ∀ k, x5 (ix1 k) = ((b2 k : ℝ) : EReal))
  (h6 : ∀ k l, x6 (ix2 k l) = ((ww k l : ℝ) : EReal)) (h7 : ∀ k, x7 (ix1 k) = ((bw k : ℝ) : EReal))
  (h8 : ∀ k l, x8 (ix2 k l) = ((wk k l : ℝ) : EReal)) (h9 : ∀ k, x9 (ix1 k) = ((bk k : ℝ) : EReal))

include h1 h2 h3 h4 h5 in
theorem hidden_entry (l : Fin 32) : val_main_v5 x1 x2 x3 x4 x5 (ix1 l) = ((layer2 (layer1 a w1 b1) w2 b2 l : ℝ) : EReal) := by
  pointwise [val_main_v5, val_main_v4, val_main_v3, val_main_v2, val_main_v1, val_main_v0]
  simp only [Fin.sum_univ_one, h1, h2, h3, h4, h5, ← EReal.coe_mul, ← EReal.coe_add, Ideal.sin_coe, Reals.coe_sum]
  rfl

include h1 h2 h3 h4 h5 h6 h7 in
theorem weight_entry (n : ℕ) (h : n < 9) : val_main_v7 x1 x2 x3 x4 x5 x6 x7 (ix1 ⟨n, h⟩) = ((splineWeights a w1 b1 w2 b2 ww bw n : ℝ) : EReal) := by
  pointwise [val_main_v7, val_main_v6]
  simp only [hidden_entry x1 x2 x3 x4 x5 a w1 b1 w2 b2 h1 h2 h3 h4 h5, h6, h7, ← EReal.coe_mul, ← EReal.coe_add, Reals.coe_sum]
  refine congrArg Real.toEReal ?_
  unfold splineWeights entries
  rw [dif_pos h]
  rfl

include h1 h2 h3 h4 h5 h8 h9 in
theorem logit_entry (n : ℕ) (h : n < 7) : val_main_v9 x1 x2 x3 x4 x5 x8 x9 (ix1 ⟨n, h⟩) = ((logits a w1 b1 w2 b2 wk bk n : ℝ) : EReal) := by
  pointwise [val_main_v9, val_main_v8]
  simp only [hidden_entry x1 x2 x3 x4 x5 a w1 b1 w2 b2 h1 h2 h3 h4 h5, h8, h9, ← EReal.coe_mul, ← EReal.coe_add, Reals.coe_sum]
  refine congrArg Real.toEReal ?_
  unfold logits entries
  rw [dif_pos h]
  rfl

include h1 h2 h3 h4 h5 h8 h9 in
theorem share_entry (n : ℕ) (h : n < 7) : val_main_v20 x1 x2 x3 x4 x5 x8 x9 (ix1 ⟨n, h⟩) = ((share (logits a w1 b1 w2 b2 wk bk) n : ℝ) : EReal) := by
  have hk := logit_entry x1 x2 x3 x4 x5 x8 x9 a w1 b1 w2 b2 wk bk h1 h2 h3 h4 h5 h8 h9
  pointwise [val_main_v20, val_main_v19, val_main_v18, val_main_v17, val_main_cst_2, val_main_v16, val_main_v15, val_main_v14, val_main_v13, val_main_v12, val_main_cst_1, val_main_v11, val_main_cst_0]
  obtain ⟨M, hM⟩ := Reals.fold_max_real (fun k : Fin 7 => (val_main_v9 x1 x2 x3 x4 x5 x8 x9 (ix1 k) : EReal)) (fun i => by
    rw [show i = ⟨i.val, i.isLt⟩ from rfl, hk]; exact EReal.coe_ne_top _) ⟨0, by norm_num⟩ (by rw [hk]; exact EReal.coe_ne_bot _)
  have hs : (∑ x : Fin 7, Ideal.exp (val_main_v9 x1 x2 x3 x4 x5 x8 x9 (ix1 x) - ((M : ℝ) : EReal)))
      = ((∑ i ∈ Finset.range 7, Real.exp (logits a w1 b1 w2 b2 wk bk i - M) : ℝ) : EReal) := by
    rw [Reals.sum_real Finset.univ _ (fun x : Fin 7 => Real.exp (logits a w1 b1 w2 b2 wk bk x.val - M))]
    · rw [Fin.sum_univ_eq_sum_range (fun i => Real.exp (logits a w1 b1 w2 b2 wk bk i - M)) 7]
    · intro x _
      rw [show x = ⟨x.val, x.isLt⟩ from rfl, hk, ← EReal.coe_sub, Ideal.exp_coe]
  rw [Consts.negInf, hM, max_eq_right bot_le, hs, hk n h, ← EReal.coe_sub, Ideal.exp_coe,
    Ideal.div_coe (Finset.sum_pos (fun i _ => Real.exp_pos _) ⟨0, by simp⟩).ne', ← EReal.coe_mul, ← share_shift _ M n, mul_one_div]

include h1 h2 h3 h4 h5 h8 h9 in
theorem knot_entry (n : ℕ) (h : n < 14) : val_main_v27 x1 x2 x3 x4 x5 x8 x9 (ix1 ⟨n, h⟩) = ((knot (logits a w1 b1 w2 b2 wk bk) n : ℝ) : EReal) := by
  have hs := running_sum (val_main_v20 x1 x2 x3 x4 x5 x8 x9) (val_main_call0_call0_v0 (F := Ideal)) (fun i => by pointwise [val_main_call0_call0_v0, val_main_call0_call0_cst])
    _ (share_entry x1 x2 x3 x4 x5 x8 x9 a w1 b1 w2 b2 wk bk h1 h2 h3 h4 h5 h8 h9)
  pointwise [val_main_v27, val_main_v26, val_main_cst_5, val_main_v25, val_main_cst_4, val_main_v22, val_main_v10, val_main_cst, val_main_v21]
  simp only [hs]
  unfold knot
  split_ifs <;> first | rfl | omega | rw [show n - 3 - 1 + 1 = n - 3 by omega]

include h1 h2 h3 h4 h5 h6 h7 in
theorem coef_entry (n : ℕ) (h : n < 10) : val_main_v24 x1 x2 x3 x4 x5 x6 x7 (ix1 ⟨n, h⟩) = ((coef (splineWeights a w1 b1 w2 b2 ww bw) n : ℝ) : EReal) := by
  have hs := weight_entry x1 x2 x3 x4 x5 x6 x7 a w1 b1 w2 b2 ww bw h1 h2 h3 h4 h5 h6 h7
  pointwise [val_main_v24, val_main_v23, val_main_cst_3]
  simp only [hs]
  unfold coef
  split_ifs <;> rfl

end Cert.Proof.ReferenceNetwork

end
-- ==== Proof.ReferenceValue.lean ====
/- The reference's result over the extended reals: de Boor's recursion on the segment the position lies in. -/
module

public import proofs.«01_k».proof.Proof.ReferenceNetwork
public import Idealize.ShloMosaic.Lib.IndicatorCount

@[expose] public section

set_option maxRecDepth 16384

noncomputable section

namespace Cert.Proof.ReferenceValue

open Idealize.ShloMosaic Idealize.ShloMosaic.TcCoe
open Idealize.SL.Sem
open Cert.ReferenceIdeal Cert.ReferenceIdeal.Gen Cert.ReferenceIdeal.Read Cert.Proof.Spline Cert.Proof.Network

/-- A gather from a list, its start indices an array over the result's indices: the entry the word names. -/
theorem gather_entry {α : Type} {N : ℕ} (d : GatherDims ⟨1, ![N]⟩ S256x256x256x1 S256x256x256) (e1 : d.offsetDims = []) (e2 : d.collapsedSliceDims = [0])
    (e3 : d.operandBatchingDims = []) (e4 : d.startIndicesBatchingDims = []) (e5 : d.startIndexMap = [0]) (e6 : d.indexVectorDim = 3) (e7 : d.sliceSizes = ![1])
    (x : (⟨1, ![N]⟩ : Shape).Idx → α) (idx : IVec S256x256x256x1 32) (i j k : Fin 256) (b : ℕ) (hb : b < N) (hN : N < 2 ^ 31)
    (hi : idx (ix4 i j k 0) = BitVec.ofNat 32 b) : Host.gather d x idx (ix3 i j k) = x (ix1 ⟨b, hb⟩) := by
  have hs : ∀ c, d.siIdx (ix3 i j k) c = ix4 i j k 0 := by
    obtain ⟨od, cd, ob, sb, sm, iv, ss, wf⟩ := d
    dsimp only at e1 e2 e3 e4 e5 e6 e7
    subst e1 e2 e3 e4 e5 e6 e7
    intro c
    have hc : c.val < 1 := c.isLt
    funext b'
    match b' with
    | ⟨0, _⟩ => rfl
    | ⟨1, _⟩ => rfl
    | ⟨2, _⟩ => rfl
    | ⟨3, _⟩ => exact Fin.ext (show c.val = 0 by omega)
  unfold Host.gather
  refine congrArg x (funext fun a => Fin.ext ?_)
  match a with
  | ⟨0, _⟩ =>
    have hm : (0 : Fin 1) ∈ d.startIndexMap := by rw [e5]; exact List.mem_singleton.2 rfl
    have hk : (0 : Fin 1) ∉ d.sKept := fun h => ((d.mem_sKept 0).1 h).1 (by rw [e2]; exact List.mem_singleton.2 rfl)
    show d.start (ix3 i j k) idx 0 + d.batchCoord (ix3 i j k) 0 + d.offCoord (ix3 i j k) 0 = b
    rw [d.batchCoord_eq_zero _ _ (by rw [e3]; exact List.not_mem_nil), d.offCoord_eq_zero _ _ hk]
    unfold GatherDims.start
    rw [dif_pos hm, hs, hi, e7, StableHlo.Predicate.toInt_ofNat_small _ (by omega)]
    show min ((b : Int)).toNat (N - 1) + 0 + 0 = b
    omega

variable (x0 : Vec Ideal S256x256x256 .f32) (x1 : Vec Ideal S1 .f32) (x2 : Vec Ideal S1x32 .f32) (x3 : Vec Ideal S32 .f32) (x4 : Vec Ideal S32x32 .f32)
  (x5 : Vec Ideal S32 .f32) (x6 : Vec Ideal S32x9 .f32) (x7 : Vec Ideal S9 .f32) (x8 : Vec Ideal S32x7 .f32) (x9 : Vec Ideal S7 .f32)
  (a : ℝ) (w1 b1 : Fin 32 → ℝ) (w2 : Fin 32 → Fin 32 → ℝ) (b2 : Fin 32 → ℝ) (ww : Fin 32 → Fin 9 → ℝ) (bw : Fin 9 → ℝ) (wk : Fin 32 → Fin 7 → ℝ) (bk : Fin 7 → ℝ)
  (h1 : x1 (ix1 0) = ((a : ℝ) : EReal)) (h2 : ∀ k, x2 (ix2 0 k) = ((w1 k : ℝ) : EReal)) (h3 : ∀ k, x3 (ix1 k) = ((b1 k : ℝ) : EReal))
  (h4 : ∀ k l, x4 (ix2 k l) = ((w2 k l : ℝ) : EReal)) (h5 : ∀ k, x5 (ix1 k) = ((b2 k : ℝ) : EReal))
  (h6 : ∀ k l, x6 (ix2 k l) = ((ww k l : ℝ) : EReal)) (h7 : ∀ k, x7 (ix1 k) = ((bw k : ℝ) : EReal))
  (h8 : ∀ k l, x8 (ix2 k l) = ((wk k l : ℝ) : EReal)) (h9 : ∀ k, x9 (ix1 k) = ((bk k : ℝ) : EReal))
  (i j k : Fin 256) (X : ℝ) (hX : x0 (ix3 i j k) = ((X : ℝ) : EReal)) (hx0 : 0 ≤ X) (hx1 : X < 1)

include hX hx0 hx1 in
/-- The clip leaves the position alone. -/
theorem position : val_main_v31 x0 (ix3 i j k) = ((X * (√3)⁻¹ : ℝ) : EReal) := by
  pointwise [val_main_v31, val_main_call1_v4, val_main_call1_v3, val_main_cst_8, val_main_call1_v2, val_main_call1_v1, val_main_call1_v0, val_main_cst_7, val_main_v30, val_main_v29, val_main_v28, val_main_cst_6]
  show min (Ideal.ofBits .f32 0x3F7FF972#32) (max (Ideal.ofBits .f32 0x00000000#32) _) = _
  have h3 : (0 : ℝ) < √3 := Real.sqrt_pos.mpr (by norm_num)
  have hle : X * (√3)⁻¹ ≤ 16775538 / 16777216 := by
    have h17 : (17 / 10 : ℝ) ≤ √3 := Real.le_sqrt_of_sq_le (by norm_num)
    rw [← div_eq_mul_inv, div_le_iff₀ h3]
    nlinarith
  rw [Consts.below1, Consts.three, hX, Ideal.sqrt_coe, if_neg (by norm_num), Ideal.div_coe h3.ne', ← EReal.coe_mul, one_div, Consts.zero,
    max_eq_right (EReal.coe_le_coe_iff.mpr (by positivity)), min_eq_right (EReal.coe_le_coe_iff.mpr hle)]

variable (S : ℕ) (hS6 : S ≤ 6) (hS : ∀ n, knot (logits a w1 b1 w2 b2 wk bk) n ≤ X * (√3)⁻¹ ↔ n ≤ S + 3)

include h1 h2 h3 h4 h5 h8 h9 hX hx0 hx1 hS6 hS in
/-- The number of knots at or below the position, less one. -/
theorem segment : val_main_v40 x0 x1 x2 x3 x4 x5 x8 x9 (ix3 i j k) = BitVec.ofNat 32 (S + 3) := by
  pointwise [val_main_v40, val_main_v39, val_main_c_9, val_main_v38, val_main_c, val_main_v37, val_main_v36, val_main_v35, val_main_v34, val_main_v33, val_main_v32]
  rw [IndicatorCount.fold_addi_setWidth_eq_card]
  have hc : ∀ x : Fin 14, BitVec.ofBool (decide ((val_main_v27 x1 x2 x3 x4 x5 x8 x9 (ix1 x) : EReal) ≤ val_main_v31 x0 (ix3 i j k))) = 1#1 ↔ x.val ≤ S + 3 := by
    intro x
    rw [StableHlo.Predicate.ofBool_eq_one_iff, decide_eq_true_iff, position x0 i j k X hX hx0 hx1, show x = ⟨x.val, x.isLt⟩ from rfl,
      ReferenceNetwork.knot_entry x1 x2 x3 x4 x5 x8 x9 a w1 b1 w2 b2 wk bk h1 h2 h3 h4 h5 h8 h9, EReal.coe_le_coe_iff, hS]
  refine (congrArg (fun c => IntOp.subi (BitVec.ofNat 32 c) 1#32) (congrArg Finset.card
    (Finset.filter_congr (q := fun x : Fin 14 => x.val ≤ S + 3) fun x _ => hc x))).trans ?_
  clear hc hS
  interval_cases S <;> rfl

include h1 h2 h3 h4 h5 h8 h9 hS6 hS hx0 hx1 hX in
theorem knot_49 : val_main_v49 x0 x1 x2 x3 x4 x5 x8 x9 (ix3 i j k) = ((knot (logits a w1 b1 w2 b2 wk bk) (S + 1) : ℝ) : EReal) := by
  rw [val_main_v49, gather_entry _ rfl rfl rfl rfl rfl rfl rfl (val_main_v27 x1 x2 x3 x4 x5 x8 x9) _ i j k (S + 1) (by omega) (by norm_num) (by
      pointwise [val_main_v48, val_main_v47, val_main_v44, val_main_v42, val_main_v41, val_main_c_10, val_main_v43, val_main_c_11, val_main_v46, val_main_v45, val_main_c_12]
      rw [segment x0 x1 x2 x3 x4 x5 x8 x9 a w1 b1 w2 b2 wk bk h1 h2 h3 h4 h5 h8 h9 i j k X hX hx0 hx1 S hS6 hS]
      clear hS
      interval_cases S <;> rfl)]
  exact ReferenceNetwork.knot_entry x1 x2 x3 x4 x5 x8 x9 a w1 b1 w2 b2 wk bk h1 h2 h3 h4 h5 h8 h9 _ _

include h1 h2 h3 h4 h5 h8 h9 hS6 hS hx0 hx1 hX in
theorem knot_58 : val_main_v58 x0 x1 x2 x3 x4 x5 x8 x9 (ix3 i j k) = ((knot (logits a w1 b1 w2 b2 wk bk) (S + 2) : ℝ) : EReal) := by
  rw [val_main_v58, gather_entry _ rfl rfl rfl rfl rfl rfl rfl (val_main_v27 x1 x2 x3 x4 x5 x8 x9) _ i j k (S + 2) (by omega) (by norm_num) (by
      pointwise [val_main_v57, val_main_v56, val_main_v53, val_main_v51, val_main_v50, val_main_c_13, val_main_v52, val_main_c_14, val_main_v55, val_main_v54, val_main_c_15]
      rw [segment x0 x1 x2 x3 x4 x5 x8 x9 a w1 b1 w2 b2 wk bk h1 h2 h3 h4 h5 h8 h9 i j k X hX hx0 hx1 S hS6 hS]
      clear hS
      interval_cases S <;> rfl)]
  exact ReferenceNetwork.knot_entry x1 x2 x3 x4 x5 x8 x9 a w1 b1 w2 b2 wk bk h1 h2 h3 h4 h5 h8 h9 _ _

include h1 h2 h3 h4 h5 h8 h9 hS6 hS hx0 hx1 hX in
theorem knot_67 : val_main_v67 x0 x1 x2 x3 x4 x5 x8 x9 (ix3 i j k) = ((knot (logits a w1 b1 w2 b2 wk bk) (S + 3) : ℝ) : EReal) := by
  rw [val_main_v67, gather_entry _ rfl rfl rfl rfl rfl rfl rfl (val_main_v27 x1 x2 x3 x4 x5 x8 x9) _ i j k (S + 3) (by omega) (by norm_num) (by
      pointwise [val_main_v66, val_main_v65, val_main_v62, val_main_v60, val_main_v59, val_main_c_16, val_main_v61, val_main_c_17, val_main_v64, val_main_v63, val_main_c_18]
      rw [segment x0 x1 x2 x3 x4 x5 x8 x9 a w1 b1 w2 b2 wk bk h1 h2 h3 h4 h5 h8 h9 i j k X hX hx0 hx1 S hS6 hS]
      clear hS
      interval_cases S <;> rfl)]
  exact ReferenceNetwork.knot_entry x1 x2 x3 x4 x5 x8 x9 a w1 b1 w2 b2 wk bk h1 h2 h3 h4 h5 h8 h9 _ _

include h1 h2 h3 h4 h5 h8 h9 hS6 hS hx0 hx1 hX in
theorem knot_76 : val_main_v76 x0 x1 x2 x3 x4 x5 x8 x9 (ix3 i j k) = ((knot (logits a w1 b1 w2 b2 wk bk) (S + 4) : ℝ) : EReal) := by
  rw [val_main_v76, gather_entry _ rfl rfl rfl rfl rfl rfl rfl (val_main_v27 x1 x2 x3 x4 x5 x8 x9) _ i j k (S + 4) (by omega) (by norm_num) (by
      pointwise [val_main_v75, val_main_v74, val_main_v71, val_main_v69, val_main_v68, val_main_c_19, val_main_v70, val_main_c_20, val_main_v73, val_main_v72, val_main_c_21]
      rw [segment x0 x1 x2 x3 x4 x5 x8 x9 a w1 b1 w2 b2 wk bk h1 h2 h3 h4 h5 h8 h9 i j k X hX hx0 hx1 S hS6 hS]
      clear hS
      interval_cases S <;> rfl)]
  exact ReferenceNetwork.knot_entry x1 x2 x3 x4 x5 x8 x9 a w1 b1 w2 b2 wk bk h1 h2 h3 h4 h5 h8 h9 _ _

include h1 h2 h3 h4 h5 h8 h9 hS6 hS hx0 hx1 hX in
theorem knot_85 : val_main_v85 x0 x1 x2 x3 x4 x5 x8 x9 (ix3 i j k) = ((knot (logits a w1 b1 w2 b2 wk bk) (S + 5) : ℝ) : EReal) := by
  rw [val_main_v85, gather_entry _ rfl rfl rfl rfl rfl rfl rfl (val_main_v27 x1 x2 x3 x4 x5 x8 x9) _ i j k (S + 5) (by omega) (by norm_num) (by
      pointwise [val_main_v84, val_main_v83, val_main_v80, val_main_v78, val_main_v77, val_main_c_22, val_main_v79, val_main_c_23, val_main_v82, val_main_v81, val_main_c_24]
      rw [segment x0 x1 x2 x3 x4 x5 x8 x9 a w1 b1 w2 b2 wk bk h1 h2 h3 h4 h5 h8 h9 i j k X hX hx0 hx1 S hS6 hS]
      clear hS
      interval_cases S <;> rfl)]
  exact ReferenceNetwork.knot_entry x1 x2 x3 x4 x5 x8 x9 a w1 b1 w2 b2 wk bk h1 h2 h3 h4 h5 h8 h9 _ _

include h1 h2 h3 h4 h5 h8 h9 hS6 hS hx0 hx1 hX in
theorem knot_94 : val_main_v94 x0 x1 x2 x3 x4 x5 x8 x9 (ix3 i j k) = ((knot (logits a w1 b1 w2 b2 wk bk) (S + 6) : ℝ) : EReal) := by
  rw [val_main_v94, gather_entry _ rfl rfl rfl rfl rfl rfl rfl (val_main_v27 x1 x2 x3 x4 x5 x8 x9) _ i j k (S + 6) (by omega) (by norm_num) (by
      pointwise [val_main_v93, val_main_v92, val_main_v89, val_main_v87, val_main_v86, val_main_c_25, val_main_v88, val_main_c_26, val_main_v91, val_main_v90, val_main_c_27]
      rw [segment x0 x1 x2 x3 x4 x5 x8 x9 a w1 b1 w2 b2 wk bk h1 h2 h3 h4 h5 h8 h9 i j k X hX hx0 hx1 S hS6 hS]
      clear hS
      interval_cases S <;> rfl)]
  exact ReferenceNetwork.knot_entry x1 x2 x3 x4 x5 x8 x9 a w1 b1 w2 b2 wk bk h1 h2 h3 h4 h5 h8 h9 _ _

include h1 h2 h3 h4 h5 h6 h7 h8 h9 hS6 hS hx0 hx1 hX in
theorem coef_103 : val_main_v103 x0 x1 x2 x3 x4 x5 x6 x7 x8 x9 (ix3 i j k) = ((coef (splineWeights a w1 b1 w2 b2 ww bw) (S) : ℝ) : EReal) := by
  rw [val_main_v103, gather_entry _ rfl rfl rfl rfl rfl rfl rfl (val_main_v24 x1 x2 x3 x4 x5 x6 x7) _ i j k (S) (by omega) (by norm_num) (by
      pointwise [val_main_v102, val_main_v101, val_main_v98, val_main_v96, val_main_v95, val_main_c_28, val_main_v97, val_main_c_29, val_main_v100, val_main_v99, val_main_c_30]
      rw [segment x0 x1 x2 x3 x4 x5 x8 x9 a w1 b1 w2 b2 wk bk h1 h2 h3 h4 h5 h8 h9 i j k X hX hx0 hx1 S hS6 hS]
      clear hS
      interval_cases S <;> rfl)]
  exact ReferenceNetwork.coef_entry x1 x2 x3 x4 x5 x6 x7 a w1 b1 w2 b2 ww bw h1 h2 h3 h4 h5 h6 h7 _ _

include h1 h2 h3 h4 h5 h6 h7 h8 h9 hS6 hS hx0 hx1 hX in
theorem coef_112 : val_main_v112 x0 x1 x2 x3 x4 x5 x6 x7 x8 x9 (ix3 i j k) = ((coef (splineWeights a w1 b1 w2 b2 ww bw) (S + 1) : ℝ) : EReal) := by
  rw [val_main_v112, gather_entry _ rfl rfl rfl rfl rfl rfl rfl (val_main_v24 x1 x2 x3 x4 x5 x6 x7) _ i j k (S + 1) (by omega) (by norm_num) (by
      pointwise [val_main_v111, val_main_v110, val_main_v107, val_main_v105, val_main_v104, val_main_c_31, val_main_v106, val_main_c_32, val_main_v109, val_main_v108, val_main_c_33]
      rw [segment x0 x1 x2 x3 x4 x5 x8 x9 a w1 b1 w2 b2 wk bk h1 h2 h3 h4 h5 h8 h9 i j k X hX hx0 hx1 S hS6 hS]
      clear hS
      interval_cases S <;> rfl)]
  exact ReferenceNetwork.coef_entry x1 x2 x3 x4 x5 x6 x7 a w1 b1 w2 b2 ww bw h1 h2 h3 h4 h5 h6 h7 _ _

include h1 h2 h3 h4 h5 h6 h7 h8 h9 hS6 hS hx0 hx1 hX in
theorem coef_121 : val_main_v121 x0 x1 x2 x3 x4 x5 x6 x7 x8 x9 (ix3 i j k) = ((coef (splineWeights a w1 b1 w2 b2 ww bw) (S + 2) : ℝ) : EReal) := by
  rw [val_main_v121, gather_entry _ rfl rfl rfl rfl rfl rfl rfl (val_main_v24 x1 x2 x3 x4 x5 x6 x7) _ i j k (S + 2) (by omega) (by norm_num) (by
      pointwise [val_main_v120, val_main_v119, val_main_v116, val_main_v114, val_main_v113, val_main_c_34, val_main_v115, val_main_c_35, val_main_v118, val_main_v117, val_main_c_36]
      rw [segment x0 x1 x2 x3 x4 x5 x8 x9 a w1 b1 w2 b2 wk bk h1 h2 h3 h4 h5 h8 h9 i j k X hX hx0 hx1 S hS6 hS]
      clear hS
      interval_cases S <;> rfl)]
  exact ReferenceNetwork.coef_entry x1 x2 x3 x4 x5 x6 x7 a w1 b1 w2 b2 ww bw h1 h2 h3 h4 h5 h6 h7 _ _

include h1 h2 h3 h4 h5 h6 h7 h8 h9 hS6 hS hx0 hx1 hX in
theorem coef_130 : val_main_v130 x0 x1 x2 x3 x4 x5 x6 x7 x8 x9 (ix3 i j k) = ((coef (splineWeights a w1 b1 w2 b2 ww bw) (S + 3) : ℝ) : EReal) := by
  rw [val_main_v130, gather_entry _ rfl rfl rfl rfl rfl rfl rfl (val_main_v24 x1 x2 x3 x4 x5 x6 x7) _ i j k (S + 3) (by omega) (by norm_num) (by
      pointwise [val_main_v129, val_main_v128, val_main_v125, val_main_v123, val_main_v122, val_main_c_37, val_main_v124, val_main_c_38, val_main_v127, val_main_v126, val_main_c_39]
      rw [segment x0 x1 x2 x3 x4 x5 x8 x9 a w1 b1 w2 b2 wk bk h1 h2 h3 h4 h5 h8 h9 i j k X hX hx0 hx1 S hS6 hS]
      clear hS
      interval_cases S <;> rfl)]
  exact ReferenceNetwork.coef_entry x1 x2 x3 x4 x5 x6 x7 a w1 b1 w2 b2 ww bw h1 h2 h3 h4 h5 h6 h7 _ _

/-- One step of the recursion, over reals. -/
theorem blend (p q r : ℝ) : (FloatOps.addf (FloatOps.mulf (FloatOps.subf (FloatOps.ofBits .f32 0x3F800000#32) (((p : ℝ) : EReal) : Ideal .f32)) (((q : ℝ) : EReal) : Ideal .f32))
    (FloatOps.mulf (((p : ℝ) : EReal) : Ideal .f32) (((r : ℝ) : EReal) : Ideal .f32)) : Ideal .f32) = (((1 - p) * q + p * r : ℝ) : EReal) := by
  show (Ideal.ofBits .f32 0x3F800000#32 - ((p : ℝ) : EReal)) * ((q : ℝ) : EReal) + ((p : ℝ) : EReal) * ((r : ℝ) : EReal) = _
  rw [Consts.one, ← EReal.coe_sub, ← EReal.coe_mul, ← EReal.coe_mul, ← EReal.coe_add]

include h1 h2 h3 h4 h5 h8 h9 hS6 hS hx0 hx1 hX in
theorem ratio_133 : val_main_v133 x0 x1 x2 x3 x4 x5 x8 x9 (ix3 i j k) = ((ratio (knot (logits a w1 b1 w2 b2 wk bk)) (S + 3) (S + 6) (X * (√3)⁻¹) : ℝ) : EReal) := by
  rw [val_main_v133_apply, val_main_v132_apply, val_main_v131_apply, position x0 i j k X hX hx0 hx1,
    knot_67 x0 x1 x2 x3 x4 x5 x8 x9 a w1 b1 w2 b2 wk bk h1 h2 h3 h4 h5 h8 h9 i j k X hX hx0 hx1 S hS6 hS,
    knot_94 x0 x1 x2 x3 x4 x5 x8 x9 a w1 b1 w2 b2 wk bk h1 h2 h3 h4 h5 h8 h9 i j k X hX hx0 hx1 S hS6 hS]
  show Ideal.div (((X * (√3)⁻¹ : ℝ) : EReal) - ((knot (logits a w1 b1 w2 b2 wk bk) (S + 3) : ℝ) : EReal)) (((knot (logits a w1 b1 w2 b2 wk bk) (S + 6) : ℝ) : EReal) - ((knot (logits a w1 b1 w2 b2 wk bk) (S + 3) : ℝ) : EReal)) = _
  rw [← EReal.coe_sub, ← EReal.coe_sub, Reals.div_real _ _ (knot_sub_pos (logits a w1 b1 w2 b2 wk bk) S (S + 3) (S + 6) hS6 (by omega) (by omega)).ne']
  rfl

include h1 h2 h3 h4 h5 h8 h9 hS6 hS hx0 hx1 hX in
theorem ratio_141 : val_main_v141 x0 x1 x2 x3 x4 x5 x8 x9 (ix3 i j k) = ((ratio (knot (logits a w1 b1 w2 b2 wk bk)) (S + 2) (S + 5) (X * (√3)⁻¹) : ℝ) : EReal) := by
  rw [val_main_v141_apply, val_main_v140_apply, val_main_v139_apply, position x0 i j k X hX hx0 hx1,
    knot_58 x0 x1 x2 x3 x4 x5 x8 x9 a w1 b1 w2 b2 wk bk h1 h2 h3 h4 h5 h8 h9 i j k X hX hx0 hx1 S hS6 hS,
    knot_85 x0 x1 x2 x3 x4 x5 x8 x9 a w1 b1 w2 b2 wk bk h1 h2 h3 h4 h5 h8 h9 i j k X hX hx0 hx1 S hS6 hS]
  show Ideal.div (((X * (√3)⁻¹ : ℝ) : EReal) - ((knot (logits a w1 b1 w2 b2 wk bk) (S + 2) : ℝ) : EReal)) (((knot (logits a w1 b1 w2 b2 wk bk) (S + 5) : ℝ) : EReal) - ((knot (logits a w1 b1 w2 b2 wk bk) (S + 2) : ℝ) : EReal)) = _
  rw [← EReal.coe_sub, ← EReal.coe_sub, Reals.div_real _ _ (knot_sub_pos (logits a w1 b1 w2 b2 wk bk) S (S + 2) (S + 5) hS6 (by omega) (by omega)).ne']
  rfl

include h1 h2 h3 h4 h5 h8 h9 hS6 hS hx0 hx1 hX in
theorem ratio_149 : val_main_v149 x0 x1 x2 x3 x4 x5 x8 x9 (ix3 i j k) = ((ratio (knot (logits a w1 b1 w2 b2 wk bk)) (S + 1) (S + 4) (X * (√3)⁻¹) : ℝ) : EReal) := by
  rw [val_main_v149_apply, val_main_v148_apply, val_main_v147_apply, position x0 i j k X hX hx0 hx1,
    knot_49 x0 x1 x2 x3 x4 x5 x8 x9 a w1 b1 w2 b2 wk bk h1 h2 h3 h4 h5 h8 h9 i j k X hX hx0 hx1 S hS6 hS,
    knot_76 x0 x1 x2 x3 x4 x5 x8 x9 a w1 b1 w2 b2 wk bk h1 h2 h3 h4 h5 h8 h9 i j k X hX hx0 hx1 S hS6 hS]
  show Ideal.div (((X * (√3)⁻¹ : ℝ) : EReal) - ((knot (logits a w1 b1 w2 b2 wk bk) (S + 1) : ℝ) : EReal)) (((knot (logits a w1 b1 w2 b2 wk bk) (S + 4) : ℝ) : EReal) - ((knot (logits a w1 b1 w2 b2 wk bk) (S + 1) : ℝ) : EReal)) = _
  rw [← EReal.coe_sub, ← EReal.coe_sub, Reals.div_real _ _ (knot_sub_pos (logits a w1 b1 w2 b2 wk bk) S (S + 1) (S + 4) hS6 (by omega) (by omega)).ne']
  rfl

include h1 h2 h3 h4 h5 h8 h9 hS6 hS hx0 hx1 hX in
theorem ratio_157 : val_main_v157 x0 x1 x2 x3 x4 x5 x8 x9 (ix3 i j k) = ((ratio (knot (logits a w1 b1 w2 b2 wk bk)) (S + 3) (S + 5) (X * (√3)⁻¹) : ℝ) : EReal) := by
  rw [val_main_v157_apply, val_main_v156_apply, val_main_v155_apply, position x0 i j k X hX hx0 hx1,
    knot_67 x0 x1 x2 x3 x4 x5 x8 x9 a w1 b1 w2 b2 wk bk h1 h2 h3 h4 h5 h8 h9 i j k X hX hx0 hx1 S hS6 hS,
    knot_85 x0 x1 x2 x3 x4 x5 x8 x9 a w1 b1 w2 b2 wk bk h1 h2 h3 h4 h5 h8 h9 i j k X hX hx0 hx1 S hS6 hS]
  show Ideal.div (((X * (√3)⁻¹ : ℝ) : EReal) - ((knot (logits a w1 b1 w2 b2 wk bk) (S + 3) : ℝ) : EReal)) (((knot (logits a w1 b1 w2 b2 wk bk) (S + 5) : ℝ) : EReal) - ((knot (logits a w1 b1 w2 b2 wk bk) (S + 3) : ℝ) : EReal)) = _
  rw [← EReal.coe_sub, ← EReal.coe_sub, Reals.div_real _ _ (knot_sub_pos (logits a w1 b1 w2 b2 wk bk) S (S + 3) (S + 5) hS6 (by omega) (by omega)).ne']
  rfl

include h1 h2 h3 h4 h5 h8 h9 hS6 hS hx0 hx1 hX in
theorem ratio_165 : val_main_v165 x0 x1 x2 x3 x4 x5 x8 x9 (ix3 i j k) = ((ratio (knot (logits a w1 b1 w2 b2 wk bk)) (S + 2) (S + 4) (X * (√3)⁻¹) : ℝ) : EReal) := by
  rw [val_main_v165_apply, val_main_v164_apply, val_main_v163_apply, position x0 i j k X hX hx0 hx1,
    knot_58 x0 x1 x2 x3 x4 x5 x8 x9 a w1 b1 w2 b2 wk bk h1 h2 h3 h4 h5 h8 h9 i j k X hX hx0 hx1 S hS6 hS,
    knot_76 x0 x1 x2 x3 x4 x5 x8 x9 a w1 b1 w2 b2 wk bk h1 h2 h3 h4 h5 h8 h9 i j k X hX hx0 hx1 S hS6 hS]
  show Ideal.div (((X * (√3)⁻¹ : ℝ) : EReal) - ((knot (logits a w1 b1 w2 b2 wk bk) (S + 2) : ℝ) : EReal)) (((knot (logits a w1 b1 w2 b2 wk bk) (S + 4) : ℝ) : EReal) - ((knot (logits a w1 b1 w2 b2 wk bk) (S + 2) : ℝ) : EReal)) = _
  rw [← EReal.coe_sub, ← EReal.coe_sub, Reals.div_real _ _ (knot_sub_pos (logits a w1 b1 w2 b2 wk bk) S (S + 2) (S + 4) hS6 (by omega) (by omega)).ne']
  rfl

include h1 h2 h3 h4 h5 h8 h9 hS6 hS hx0 hx1 hX in
theorem ratio_173 : val_main_v173 x0 x1 x2 x3 x4 x5 x8 x9 (ix3 i j k) = ((ratio (knot (logits a w1 b1 w2 b2 wk bk)) (S + 3) (S + 4) (X * (√3)⁻¹) : ℝ) : EReal) := by
  rw [val_main_v173_apply, val_main_v172_apply, val_main_v171_apply, position x0 i j k X hX hx0 hx1,
    knot_67 x0 x1 x2 x3 x4 x5 x8 x9 a w1 b1 w2 b2 wk bk h1 h2 h3 h4 h5 h8 h9 i j k X hX hx0 hx1 S hS6 hS,
    knot_76 x0 x1 x2 x3 x4 x5 x8 x9 a w1 b1 w2 b2 wk bk h1 h2 h3 h4 h5 h8 h9 i j k X hX hx0 hx1 S hS6 hS]
  show Ideal.div (((X * (√3)⁻¹ : ℝ) : EReal) - ((knot (logits a w1 b1 w2 b2 wk bk) (S + 3) : ℝ) : EReal)) (((knot (logits a w1 b1 w2 b2 wk bk) (S + 4) : ℝ) : EReal) - ((knot (logits a w1 b1 w2 b2 wk bk) (S + 3) : ℝ) : EReal)) = _
  rw [← EReal.coe_sub, ← EReal.coe_sub, Reals.div_real _ _ (knot_sub_pos (logits a w1 b1 w2 b2 wk bk) S (S + 3) (S + 4) hS6 (by omega) (by omega)).ne']
  rfl

include h1 h2 h3 h4 h5 h6 h7 h8 h9 hS6 hS hx0 hx1 hX in
theorem step_138 : val_main_v138 x0 x1 x2 x3 x4 x5 x6 x7 x8 x9 (ix3 i j k) = ((((1 - ratio (knot (logits a w1 b1 w2 b2 wk bk)) (S + 3) (S + 6) (X * (√3)⁻¹)) * coef (splineWeights a w1 b1 w2 b2 ww bw) (S + 2) + ratio (knot (logits a w1 b1 w2 b2 wk bk)) (S + 3) (S + 6) (X * (√3)⁻¹) * coef (splineWeights a w1 b1 w2 b2 ww bw) (S + 3)) : ℝ) : EReal) := by
  rw [val_main_v138_apply, val_main_v137_apply, val_main_v136_apply, val_main_v135_apply, val_main_v134_apply, val_main_cst_40_apply,
    ratio_133 x0 x1 x2 x3 x4 x5 x8 x9 a w1 b1 w2 b2 wk bk h1 h2 h3 h4 h5 h8 h9 i j k X hX hx0 hx1 S hS6 hS,
    coef_121 x0 x1 x2 x3 x4 x5 x6 x7 x8 x9 a w1 b1 w2 b2 ww bw wk bk h1 h2 h3 h4 h5 h6 h7 h8 h9 i j k X hX hx0 hx1 S hS6 hS,
    coef_130 x0 x1 x2 x3 x4 x5 x6 x7 x8 x9 a w1 b1 w2 b2 ww bw wk bk h1 h2 h3 h4 h5 h6 h7 h8 h9 i j k X hX hx0 hx1 S hS6 hS]
  exact blend _ _ _

include h1 h2 h3 h4 h5 h6 h7 h8 h9 hS6 hS hx0 hx1 hX in
theorem step_146 : val_main_v146 x0 x1 x2 x3 x4 x5 x6 x7 x8 x9 (ix3 i j k) = ((((1 - ratio (knot (logits a w1 b1 w2 b2 wk bk)) (S + 2) (S + 5) (X * (√3)⁻¹)) * coef (splineWeights a w1 b1 w2 b2 ww bw) (S + 1) + ratio (knot (logits a w1 b1 w2 b2 wk bk)) (S + 2) (S + 5) (X * (√3)⁻¹) * coef (splineWeights a w1 b1 w2 b2 ww bw) (S + 2)) : ℝ) : EReal) := by
  rw [val_main_v146_apply, val_main_v145_apply, val_main_v144_apply, val_main_v143_apply, val_main_v142_apply, val_main_cst_41_apply,
    ratio_141 x0 x1 x2 x3 x4 x5 x8 x9 a w1 b1 w2 b2 wk bk h1 h2 h3 h4 h5 h8 h9 i j k X hX hx0 hx1 S hS6 hS,
    coef_112 x0 x1 x2 x3 x4 x5 x6 x7 x8 x9 a w1 b1 w2 b2 ww bw wk bk h1 h2 h3 h4 h5 h6 h7 h8 h9 i j k X hX hx0 hx1 S hS6 hS,
    coef_121 x0 x1 x2 x3 x4 x5 x6 x7 x8 x9 a w1 b1 w2 b2 ww bw wk bk h1 h2 h3 h4 h5 h6 h7 h8 h9 i j k X hX hx0 hx1 S hS6 hS]
  exact blend _ _ _

include h1 h2 h3 h4 h5 h6 h7 h8 h9 hS6 hS hx0 hx1 hX in
theorem step_154 : val_main_v154 x0 x1 x2 x3 x4 x5 x6 x7 x8 x9 (ix3 i j k) = ((((1 - ratio (knot (logits a w1 b1 w2 b2 wk bk)) (S + 1) (S + 4) (X * (√3)⁻¹)) * coef (splineWeights a w1 b1 w2 b2 ww bw) S + ratio (knot (logits a w1 b1 w2 b2 wk bk)) (S + 1) (S + 4) (X * (√3)⁻¹) * coef (splineWeights a w1 b1 w2 b2 ww bw) (S + 1)) : ℝ) : EReal) := by
  rw [val_main_v154_apply, val_main_v153_apply, val_main_v152_apply, val_main_v151_apply, val_main_v150_apply, val_main_cst_42_apply,
    ratio_149 x0 x1 x2 x3 x4 x5 x8 x9 a w1 b1 w2 b2 wk bk h1 h2 h3 h4 h5 h8 h9 i j k X hX hx0 hx1 S hS6 hS,
    coef_103 x0 x1 x2 x3 x4 x5 x6 x7 x8 x9 a w1 b1 w2 b2 ww bw wk bk h1 h2 h3 h4 h5 h6 h7 h8 h9 i j k X hX hx0 hx1 S hS6 hS,
    coef_112 x0 x1 x2 x3 x4 x5 x6 x7 x8 x9 a w1 b1 w2 b2 ww bw wk bk h1 h2 h3 h4 h5 h6 h7 h8 h9 i j k X hX hx0 hx1 S hS6 hS]
  exact blend _ _ _

include h1 h2 h3 h4 h5 h6 h7 h8 h9 hS6 hS hx0 hx1 hX in
theorem step_162 : val_main_v162 x0 x1 x2 x3 x4 x5 x6 x7 x8 x9 (ix3 i j k) = ((((1 - ratio (knot (logits a w1 b1 w2 b2 wk bk)) (S + 3) (S + 5) (X * (√3)⁻¹)) * ((1 - ratio (knot (logits a w1 b1 w2 b2 wk bk)) (S + 2) (S + 5) (X * (√3)⁻¹)) * coef (splineWeights a w1 b1 w2 b2 ww bw) (S + 1) + ratio (knot (logits a w1 b1 w2 b2 wk bk)) (S + 2) (S + 5) (X * (√3)⁻¹) * coef (splineWeights a w1 b1 w2 b2 ww bw) (S + 2)) + ratio (knot (logits a w1 b1 w2 b2 wk bk)) (S + 3) (S + 5) (X * (√3)⁻¹) * ((1 - ratio (knot (logits a w1 b1 w2 b2 wk bk)) (S + 3) (S + 6) (X * (√3)⁻¹)) * coef (splineWeights a w1 b1 w2 b2 ww bw) (S + 2) + ratio (knot (logits a w1 b1 w2 b2 wk bk)) (S + 3) (S + 6) (X * (√3)⁻¹) * coef (splineWeights a w1 b1 w2 b2 ww bw) (S + 3))) : ℝ) : EReal) := by
  rw [val_main_v162_apply, val_main_v161_apply, val_main_v160_apply, val_main_v159_apply, val_main_v158_apply, val_main_cst_43_apply,
    ratio_157 x0 x1 x2 x3 x4 x5 x8 x9 a w1 b1 w2 b2 wk bk h1 h2 h3 h4 h5 h8 h9 i j k X hX hx0 hx1 S hS6 hS,
    step_146 x0 x1 x2 x3 x4 x5 x6 x7 x8 x9 a w1 b1 w2 b2 ww bw wk bk h1 h2 h3 h4 h5 h6 h7 h8 h9 i j k X hX hx0 hx1 S hS6 hS,
    step_138 x0 x1 x2 x3 x4 x5 x6 x7 x8 x9 a w1 b1 w2 b2 ww bw wk bk h1 h2 h3 h4 h5 h6 h7 h8 h9 i j k X hX hx0 hx1 S hS6 hS]
  exact blend _ _ _

include h1 h2 h3 h4 h5 h6 h7 h8 h9 hS6 hS hx0 hx1 hX in
theorem step_170 : val_main_v170 x0 x1 x2 x3 x4 x5 x6 x7 x8 x9 (ix3 i j k) = ((((1 - ratio (knot (logits a w1 b1 w2 b2 wk bk)) (S + 2) (S + 4) (X * (√3)⁻¹)) * ((1 - ratio (knot (logits a w1 b1 w2 b2 wk bk)) (S + 1) (S + 4) (X * (√3)⁻¹)) * coef (splineWeights a w1 b1 w2 b2 ww bw) S + ratio (knot (logits a w1 b1 w2 b2 wk bk)) (S + 1) (S + 4) (X * (√3)⁻¹) * coef (splineWeights a w1 b1 w2 b2 ww bw) (S + 1)) + ratio (knot (logits a w1 b1 w2 b2 wk bk)) (S + 2) (S + 4) (X * (√3)⁻¹) * ((1 - ratio (knot (logits a w1 b1 w2 b2 wk bk)) (S + 2) (S + 5) (X * (√3)⁻¹)) * coef (splineWeights a w1 b1 w2 b2 ww bw) (S + 1) + ratio (knot (logits a w1 b1 w2 b2 wk bk)) (S + 2) (S + 5) (X * (√3)⁻¹) * coef (splineWeights a w1 b1 w2 b2 ww bw) (S + 2))) : ℝ) : EReal) := by
  rw [val_main_v170_apply, val_main_v169_apply, val_main_v168_apply, val_main_v167_apply, val_main_v166_apply, val_main_cst_44_apply,
    ratio_165 x0 x1 x2 x3 x4 x5 x8 x9 a w1 b1 w2 b2 wk bk h1 h2 h3 h4 h5 h8 h9 i j k X hX hx0 hx1 S hS6 hS,
    step_154 x0 x1 x2 x3 x4 x5 x6 x7 x8 x9 a w1 b1 w2 b2 ww bw wk bk h1 h2 h3 h4 h5 h6 h7 h8 h9 i j k X hX hx0 hx1 S hS6 hS,
    step_146 x0 x1 x2 x3 x4 x5 x6 x7 x8 x9 a w1 b1 w2 b2 ww bw wk bk h1 h2 h3 h4 h5 h6 h7 h8 h9 i j k X hX hx0 hx1 S hS6 hS]
  exact blend _ _ _

include h1 h2 h3 h4 h5 h6 h7 h8 h9 hS6 hS hx0 hx1 hX in
/-- The reference's result at an index is de Boor's recursion on the segment the position lies in. -/
theorem result_entry : val_main_v178 x0 x1 x2 x3 x4 x5 x6 x7 x8 x9 (ix3 i j k)
    = ((deBoor (knot (logits a w1 b1 w2 b2 wk bk)) (coef (splineWeights a w1 b1 w2 b2 ww bw)) S (X * (√3)⁻¹) : ℝ) : EReal) := by
  rw [val_main_v178_apply, val_main_v177_apply, val_main_v176_apply, val_main_v175_apply, val_main_v174_apply, val_main_cst_45_apply,
    ratio_173 x0 x1 x2 x3 x4 x5 x8 x9 a w1 b1 w2 b2 wk bk h1 h2 h3 h4 h5 h8 h9 i j k X hX hx0 hx1 S hS6 hS,
    step_170 x0 x1 x2 x3 x4 x5 x6 x7 x8 x9 a w1 b1 w2 b2 ww bw wk bk h1 h2 h3 h4 h5 h6 h7 h8 h9 i j k X hX hx0 hx1 S hS6 hS,
    step_162 x0 x1 x2 x3 x4 x5 x6 x7 x8 x9 a w1 b1 w2 b2 ww bw wk bk h1 h2 h3 h4 h5 h6 h7 h8 h9 i j k X hX hx0 hx1 S hS6 hS]
  exact blend _ _ _

end Cert.Proof.ReferenceValue

end
-- ==== Proof.Algebraic.lean ====
/- Over the extended reals, the kernel and the reference leave the same result: the spline's value at every position. -/
module

public import proofs.«01_k».proof.Proof.Plain
public import proofs.«01_k».proof.Proof.Finite
public import proofs.«01_k».proof.Proof.KernelIdealResult
public import proofs.«01_k».proof.Proof.ReferenceValue

@[expose] public section

set_option maxRecDepth 16384

noncomputable section

namespace Cert.Proof.Algebraic

open Idealize.ShloMosaic Idealize.ShloMosaic.TcCoe Idealize.ShloMosaic.Tactic
open Idealize.SL Idealize.SL.Sem
open Cert.Proof.Spline Cert.Proof.Network

/-- The kernel's memory, and its result. -/
abbrev Memory := (ℓ : Loc Cert.KernelIdeal.nD Cert.KernelIdeal.τ Cert.KernelIdeal.sig) → Buf (Elt Ideal) ℓ

/-- What the kernel leaves, position by position. -/
def result (m : Memory) (c : Dev Cert.KernelIdeal.nD) : FVec Ideal Cert.KernelIdeal.S256x256x256 .f32 := fun i =>
  KernelIdealEval.piece (KernelIdealEval.depth (KernelIdealValue.tableOf m c 35)) (KernelIdealValue.tableOf m c) (m (c.tc.loc Cert.KernelIdeal.main_arg0) i)

open Cert.KernelIdeal in
/-- The reference's value at any position is the kernel's. -/
theorem same (m : Memory) (hpre : Cert.Pre_KernelIdeal_pre (hPre_pre := Cert.Pre_pre.Gen.facts) m) (c : Dev nD) :
    Cert.ReferenceIdeal.Read.val_main_v178 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) (m (c.tc.loc main_arg9))
      = result m c := by
  obtain ⟨r0, r1, r2, r3, r4, r5, r6, r7, r8, r9⟩ := Finite.of_pre _ _ _ _ _ _ _ _ _ _ (hpre c)
  have r1 := r1 (ix1 0)
  have r2 := fun k => r2 (ix2 0 k)
  have r3 := fun k => r3 (ix1 k)
  have r4 := fun k l => r4 (ix2 k l)
  have r5 := fun k => r5 (ix1 k)
  have r6 := fun k l => r6 (ix2 k l)
  have r7 := fun k => r7 (ix1 k)
  have r8 := fun k l => r8 (ix2 k l)
  have r9 := fun k => r9 (ix1 k)
  funext p
  obtain ⟨i, j, k, rfl⟩ : ∃ i j k : Fin 256, p = ix3 i j k := ⟨p 0, p 1, p 2, eq_ix3 p⟩
  obtain ⟨X, hX, hX0, hX1⟩ := r0 (ix3 i j k)
  have h3 : (1 : ℝ) ≤ Real.sqrt 3 := by
    rw [show (1 : ℝ) = Real.sqrt 1 from Real.sqrt_one.symm]
    exact Real.sqrt_le_sqrt (by norm_num)
  have hi : (0 : ℝ) < (Real.sqrt 3)⁻¹ := by positivity
  obtain ⟨S, hS6, hS⟩ := exists_segment
    (logits _ (fun k => _) (fun k => _) (fun k l => _) (fun k => _) (fun k l => _) (fun k => _)) (X * (Real.sqrt 3)⁻¹)
    (mul_nonneg hX0 hi.le) (by
      rw [← div_eq_mul_inv, div_lt_one (by positivity)]
      exact hX1.trans_le h3)
  unfold result
  refine (ReferenceValue.result_entry _ _ _ _ _ _ _ _ _ _ _ _ _ _ _ _ _ _ _ r1 r2 r3 r4 r5 r6 r7 r8 r9 i j k X hX hX0 hX1 S hS6 hS).trans ?_
  rw [hX]
  exact (KernelIdealResult.result_entry m c _ _ _ _ _ _ _ _ _ r1 r2 r3 r4 r5 r6 r7 r8 r9 X hX1 S hS6 hS).symm

set_option maxHeartbeats 8000000 in
theorem algebraic : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m g m' g' hpre hagree
  refine ⟨result m, (θ_run _ _ _).mono (fun r h c => ⟨h.1 c, h.2.1 c⟩)
    (θ_run_and (KernelIdealValue.run_out m g KernelIdealPiece.taken) (KernelIdealFrame.frame m g)), ?_⟩
  refine (θ_run _ _ _).mono (fun r h c => ⟨(h c).1.trans ((Cert.ReferenceIdeal.Read.val_main_v178_eq (StableHlo.launchContents m' c)).trans ?_), (h c).2⟩)
    (Cert.ReferenceIdeal.Value.run m' g')
  obtain ⟨a0, a1, a2, a3, a4, a5, a6, a7, a8, a9⟩ := hagree c
  repeat rw [StableHlo.launchContents_devRef]
  rw [a0, a1, a2, a3, a4, a5, a6, a7, a8, a9]
  exact same m hpre c

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pre
public import proofs.«01_k».proof.Proof.Plain
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All the claims: the frames, the ideal kernel, and that kernel and reference compute the same function over the extended reals. -/
theorem claim : Cert.Claim := ⟨Cert.Kernel.Gen.facts, Cert.KernelIdeal.Gen.facts, Cert.ReferenceIdeal.Gen.facts, Cert.Pre_pre.Gen.facts,
    fun m g _ => KernelFrame.frame m g, fun m g _ => KernelIdealFrame.frame m g, fun m g _ => KernelIdealFrame.frame m g,
    Plain.reference_frame, fun m g _ => Plain.reference_frame m g trivial, Plain.preserves, Algebraic.algebraic⟩

end Cert.Proof

end
